-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x960 : Shape := ⟨3, ![1, 256, 960]⟩
abbrev S300000x120 : Shape := ⟨2, ![300000, 120]⟩
abbrev S5x300000x120 : Shape := ⟨3, ![5, 300000, 120]⟩
abbrev S300000 : Shape := ⟨1, ![300000]⟩
abbrev S1x256 : Shape := ⟨2, ![1, 256]⟩
abbrev S256x960 : Shape := ⟨2, ![256, 960]⟩
abbrev S960x256 : Shape := ⟨2, ![960, 256]⟩
abbrev S120x300000 : Shape := ⟨2, ![120, 300000]⟩
abbrev S5x120x300000 : Shape := ⟨3, ![5, 120, 300000]⟩
abbrev S1x300000 : Shape := ⟨2, ![1, 300000]⟩
abbrev S300000x256 : Shape := ⟨2, ![300000, 256]⟩
abbrev S120x2048 : Shape := ⟨2, ![120, 2048]⟩
abbrev S5x120x2048 : Shape := ⟨3, ![5, 120, 2048]⟩
abbrev S1x2048 : Shape := ⟨2, ![1, 2048]⟩
abbrev S2048x256 : Shape := ⟨2, ![2048, 256]⟩
abbrev S256x1024 : Shape := ⟨2, ![256, 1024]⟩
abbrev S256x128 : Shape := ⟨2, ![256, 128]⟩
abbrev S120x256 : Shape := ⟨2, ![120, 256]⟩
abbrev S256x120 : Shape := ⟨2, ![256, 120]⟩
abbrev S128x256 : Shape := ⟨2, ![128, 256]⟩
abbrev S8x256 : Shape := ⟨2, ![8, 256]⟩
abbrev S32x256 : Shape := ⟨2, ![32, 256]⟩
abbrev S1x120x256 : Shape := ⟨3, ![1, 120, 256]⟩
abbrev S1024x256 : Shape := ⟨2, ![1024, 256]⟩
abbrev S256x256 : Shape := ⟨2, ![256, 256]⟩
abbrev S256x300000 : Shape := ⟨2, ![256, 300000]⟩
abbrev S1x256x300000 : Shape := ⟨3, ![1, 256, 300000]⟩

abbrev nBuf : Space → Nat
  | .hbm => 15
  | .vmem => 14
  | .smem => 0
  | _ => 0

abbrev bufTy : (tb : Table) → Fin (tcTables nBuf tb) → BufTy
  | .hbm, ⟨0, _⟩ => ⟨S1x256x960, .bf16⟩
  | .hbm, ⟨1, _⟩ => ⟨S300000x120, .i8⟩
  | .hbm, ⟨2, _⟩ => ⟨S5x300000x120, .i8⟩
  | .hbm, ⟨3, _⟩ => ⟨S300000, .f32⟩
  | .hbm, ⟨4, _⟩ => ⟨S300000, .f32⟩
  | .hbm, ⟨5, _⟩ => ⟨S1x256, .f32⟩
  | .hbm, ⟨6, _⟩ => ⟨S256x960, .bf16⟩
  | .hbm, ⟨7, _⟩ => ⟨S960x256, .bf16⟩
  | .hbm, ⟨8, _⟩ => ⟨S120x300000, .i8⟩
  | .hbm, ⟨9, _⟩ => ⟨S5x120x300000, .i8⟩
  | .hbm, ⟨10, _⟩ => ⟨S1x300000, .f32⟩
  | .hbm, ⟨11, _⟩ => ⟨S1x300000, .f32⟩
  | .hbm, ⟨12, _⟩ => ⟨S300000x256, .f32⟩
  | .hbm, ⟨13, _⟩ => ⟨S256x300000, .f32⟩
  | .hbm, ⟨14, _⟩ => ⟨S1x256x300000, .f32⟩
  | .local _ .vmem, ⟨0, _⟩ => ⟨S960x256, .bf16⟩
  | .local _ .vmem, ⟨1, _⟩ => ⟨S120x2048, .i8⟩
  | .local _ .vmem, ⟨2, _⟩ => ⟨S120x2048, .i8⟩
  | .local _ .vmem, ⟨3, _⟩ => ⟨S5x120x2048, .i8⟩
  | .local _ .vmem, ⟨4, _⟩ => ⟨S5x120x2048, .i8⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S256x1024, .bf16⟩
  | .local _ .vmem, ⟨13, _⟩ => ⟨S256x128, .f32⟩
  | _, _ => ⟨S1x256x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S960x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S120x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x120x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x256x960 : Shape := ⟨3, ![1, 256, 960]⟩
abbrev S300000x120 : Shape := ⟨2, ![300000, 120]⟩
abbrev S5x300000x120 : Shape := ⟨3, ![5, 300000, 120]⟩
abbrev S300000 : Shape := ⟨1, ![300000]⟩
abbrev S1x256 : Shape := ⟨2, ![1, 256]⟩
abbrev S8 : Shape := ⟨1, ![8]⟩
abbrev S8x1 : Shape := ⟨2, ![8, 1]⟩
abbrev S300000x1x120 : Shape := ⟨3, ![300000, 1, 120]⟩
abbrev S1x8x1 : Shape := ⟨3, ![1, 8, 1]⟩
abbrev S300000x8x120 : Shape := ⟨3, ![300000, 8, 120]⟩
abbrev S_ : Shape := ⟨0, ![]⟩
abbrev S1x300000x120 : Shape := ⟨3, ![1, 300000, 120]⟩
abbrev S300000x960 : Shape := ⟨2, ![300000, 960]⟩
abbrev S256x960 : Shape := ⟨2, ![256, 960]⟩
abbrev S256x300000 : Shape := ⟨2, ![256, 300000]⟩
abbrev S1x256x300000 : Shape := ⟨3, ![1, 256, 300000]⟩
abbrev S1x1x300000 : Shape := ⟨3, ![1, 1, 300000]⟩
abbrev S1x256x1 : Shape := ⟨3, ![1, 256, 1]⟩

abbrev nBuf : Space → Nat
  | .hbm => 118
  | .vmem => 0
  | .smem => 0
  | _ => 0

abbrev bufTy : (tb : Table) → Fin (tcTables nBuf tb) → BufTy
  | .hbm, ⟨0, _⟩ => ⟨S1x256x960, .bf16⟩
  | .hbm, ⟨1, _⟩ => ⟨S300000x120, .i8⟩
  | .hbm, ⟨2, _⟩ => ⟨S5x300000x120, .i8⟩
  | .hbm, ⟨3, _⟩ => ⟨S300000, .f32⟩
  | .hbm, ⟨4, _⟩ => ⟨S300000, .f32⟩
  | .hbm, ⟨5, _⟩ => ⟨S1x256, .f32⟩
  | .hbm, ⟨6, _⟩ => ⟨S8, .i32⟩
  | .hbm, ⟨7, _⟩ => ⟨S8x1, .i32⟩
  | .hbm, ⟨8, _⟩ => ⟨S300000x120, .i32⟩
  | .hbm, ⟨9, _⟩ => ⟨S300000x1x120, .i32⟩
  | .hbm, ⟨10, _⟩ => ⟨S1x8x1, .i32⟩
  | .hbm, ⟨11, _⟩ => ⟨S300000x8x120, .i32⟩
  | .hbm, ⟨12, _⟩ => ⟨S300000x8x120, .i32⟩
  | .hbm, ⟨13, _⟩ => ⟨S300000x8x120, .i32⟩
  | .hbm, ⟨14, _⟩ => ⟨S_, .i32⟩
  | .hbm, ⟨15, _⟩ => ⟨S300000x8x120, .i32⟩
  | .hbm, ⟨16, _⟩ => ⟨S300000x8x120, .i32⟩
  | .hbm, ⟨17, _⟩ => ⟨S_, .i32⟩
  | .hbm, ⟨18, _⟩ => ⟨S300000x8x120, .i32⟩
  | .hbm, ⟨19, _⟩ => ⟨S300000x8x120, .i32⟩
  | .hbm, ⟨20, _⟩ => ⟨S1x300000x120, .i8⟩
  | .hbm, ⟨21, _⟩ => ⟨S300000x120, .i8⟩
  | .hbm, ⟨22, _⟩ => ⟨S300000x120, .i32⟩
  | .hbm, ⟨23, _⟩ => ⟨S300000x1x120, .i32⟩
  | .hbm, ⟨24, _⟩ => ⟨S1x8x1, .i32⟩
  | .hbm, ⟨25, _⟩ => ⟨S300000x8x120, .i32⟩
  | .hbm, ⟨26, _⟩ => ⟨S300000x8x120, .i32⟩
  | .hbm, ⟨27, _⟩ => ⟨S300000x8x120, .i32⟩
  | .hbm, ⟨28, _⟩ => ⟨S_, .i32⟩
  | .hbm, ⟨29, _⟩ => ⟨S300000x8x120, .i32⟩
  | .hbm, ⟨30, _⟩ => ⟨S300000x8x120, .i32⟩
  | .hbm, ⟨31, _⟩ => ⟨S_, .i32⟩
  | .hbm, ⟨32, _⟩ => ⟨S300000x8x120, .i32⟩
  | .hbm, ⟨33, _⟩ => ⟨S300000x8x120, .i32⟩
  | .hbm, ⟨34, _⟩ => ⟨S300000x8x120, .i32⟩
  | .hbm, ⟨35, _⟩ => ⟨S1x300000x120, .i8⟩
  | .hbm, ⟨36, _⟩ => ⟨S300000x120, .i8⟩
  | .hbm, ⟨37, _⟩ => ⟨S300000x120, .i32⟩
  | .hbm, ⟨38, _⟩ => ⟨S300000x1x120, .i32⟩
  | .hbm, ⟨39, _⟩ => ⟨S1x8x1, .i32⟩
  | .hbm, ⟨40, _⟩ => ⟨S300000x8x120, .i32⟩
  | .hbm, ⟨41, _⟩ => ⟨S300000x8x120, .i32⟩
  | .hbm, ⟨42, _⟩ => ⟨S300000x8x120, .i32⟩
  | .hbm, ⟨43, _⟩ => ⟨S_, .i32⟩
  | .hbm, ⟨44, _⟩ => ⟨S300000x8x120, .i32⟩
  | .hbm, ⟨45, _⟩ => ⟨S300000x8x120, .i32⟩
  | .hbm, ⟨46, _⟩ => ⟨S_, .i32⟩
  | .hbm, ⟨47, _⟩ => ⟨S300000x8x120, .i32⟩
  | .hbm, ⟨48, _⟩ => ⟨S300000x8x120, .i32⟩
  | .hbm, ⟨49, _⟩ => ⟨S300000x8x120, .i32⟩
  | .hbm, ⟨50, _⟩ => ⟨S1x300000x120, .i8⟩
  | .hbm, ⟨51, _⟩ => ⟨S300000x120, .i8⟩
  | .hbm, ⟨52, _⟩ => ⟨S300000x120, .i32⟩
  | .hbm, ⟨53, _⟩ => ⟨S300000x1x120, .i32⟩
  | .hbm, ⟨54, _⟩ => ⟨S1x8x1, .i32⟩
  | .hbm, ⟨55, _⟩ => ⟨S300000x8x120, .i32⟩
  | .hbm, ⟨56, _⟩ => ⟨S300000x8x120, .i32⟩
  | .hbm, ⟨57, _⟩ => ⟨S300000x8x120, .i32⟩
  | .hbm, ⟨58, _⟩ => ⟨S_, .i32⟩
  | .hbm, ⟨59, _⟩ => ⟨S300000x8x120, .i32⟩
  | .hbm, ⟨60, _⟩ => ⟨S300000x8x120, .i32⟩
  | .hbm, ⟨61, _⟩ => ⟨S_, .i32⟩
  | .hbm, ⟨62, _⟩ => ⟨S300000x8x120, .i32⟩
  | .hbm, ⟨63, _⟩ => ⟨S300000x8x120, .i32⟩
  | .hbm, ⟨64, _⟩ => ⟨S300000x8x120, .i32⟩
  | .hbm, ⟨65, _⟩ => ⟨S1x300000x120, .i8⟩
  | .hbm, ⟨66, _⟩ => ⟨S300000x120, .i8⟩
  | .hbm, ⟨67, _⟩ => ⟨S300000x120, .i32⟩
  | .hbm, ⟨68, _⟩ => ⟨S300000x1x120, .i32⟩
  | .hbm, ⟨69, _⟩ => ⟨S1x8x1, .i32⟩
  | .hbm, ⟨70, _⟩ => ⟨S300000x8x120, .i32⟩
  | .hbm, ⟨71, _⟩ => ⟨S300000x8x120, .i32⟩
  | .hbm, ⟨72, _⟩ => ⟨S300000x8x120, .i32⟩
  | .hbm, ⟨73, _⟩ => ⟨S_, .i32⟩
  | .hbm, ⟨74, _⟩ => ⟨S300000x8x120, .i32⟩
  | .hbm, ⟨75, _⟩ => ⟨S300000x8x120, .i32⟩
  | .hbm, ⟨76, _⟩ => ⟨S_, .i32⟩
  | .hbm, ⟨77, _⟩ => ⟨S300000x8x120, .i32⟩
  | .hbm, ⟨78, _⟩ => ⟨S300000x8x120, .i32⟩
  | .hbm, ⟨79, _⟩ => ⟨S300000x8x120, .i32⟩
  | .hbm, ⟨80, _⟩ => ⟨S1x300000x120, .i8⟩
  | .hbm, ⟨81, _⟩ => ⟨S300000x120, .i8⟩
  | .hbm, ⟨82, _⟩ => ⟨S300000x120, .i32⟩
  | .hbm, ⟨83, _⟩ => ⟨S300000x1x120, .i32⟩
  | .hbm, ⟨84, _⟩ => ⟨S1x8x1, .i32⟩
  | .hbm, ⟨85, _⟩ => ⟨S300000x8x120, .i32⟩
  | .hbm, ⟨86, _⟩ => ⟨S300000x8x120, .i32⟩
  | .hbm, ⟨87, _⟩ => ⟨S300000x8x120, .i32⟩
  | .hbm, ⟨88, _⟩ => ⟨S_, .i32⟩
  | .hbm, ⟨89, _⟩ => ⟨S300000x8x120, .i32⟩
  | .hbm, ⟨90, _⟩ => ⟨S300000x8x120, .i32⟩
  | .hbm, ⟨91, _⟩ => ⟨S_, .i32⟩
  | .hbm, ⟨92, _⟩ => ⟨S300000x8x120, .i32⟩
  | .hbm, ⟨93, _⟩ => ⟨S300000x8x120, .i32⟩
  | .hbm, ⟨94, _⟩ => ⟨S300000x8x120, .i32⟩
  | .hbm, ⟨95, _⟩ => ⟨S_, .i32⟩
  | .hbm, ⟨96, _⟩ => ⟨S300000x8x120, .i32⟩
  | .hbm, ⟨97, _⟩ => ⟨S300000x8x120, .i32⟩
  | .hbm, ⟨98, _⟩ => ⟨S_, .i32⟩
  | .hbm, ⟨99, _⟩ => ⟨S300000x8x120, .i32⟩
  | .hbm, ⟨100, _⟩ => ⟨S300000x8x120, .i32⟩
  | .hbm, ⟨101, _⟩ => ⟨S300000x8x120, .bf16⟩
  | .hbm, ⟨102, _⟩ => ⟨S300000x960, .bf16⟩
  | .hbm, ⟨103, _⟩ => ⟨S256x960, .bf16⟩
  | .hbm, ⟨104, _⟩ => ⟨S256x300000, .f32⟩
  | .hbm, ⟨105, _⟩ => ⟨S1x256x300000, .f32⟩
  | .hbm, ⟨106, _⟩ => ⟨S1x1x300000, .f32⟩
  | .hbm, ⟨107, _⟩ => ⟨S1x256x1, .f32⟩
  | .hbm, ⟨108, _⟩ => ⟨S1x256x300000, .f32⟩
  | .hbm, ⟨109, _⟩ => ⟨S1x256x300000, .f32⟩
  | .hbm, ⟨110, _⟩ => ⟨S1x256x300000, .f32⟩
  | .hbm, ⟨111, _⟩ => ⟨S_, .f32⟩
  | .hbm, ⟨112, _⟩ => ⟨S300000, .f32⟩
  | .hbm, ⟨113, _⟩ => ⟨S300000, .f32⟩
  | .hbm, ⟨114, _⟩ => ⟨S1x1x300000, .f32⟩
  | .hbm, ⟨115, _⟩ => ⟨S1x256x300000, .f32⟩
  | .hbm, ⟨116, _⟩ => ⟨S1x256x300000, .f32⟩
  | .hbm, ⟨117, _⟩ => ⟨S1x256x300000, .f32⟩
  | _, _ => ⟨S1x256x960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_c_9 : Ref sig .tc := ⟨.hbm, 88, rfl⟩
abbrev main_v72 : Ref sig .tc := ⟨.hbm, 89, rfl⟩
abbrev main_v73 : Ref sig .tc := ⟨.hbm, 90, rfl⟩
abbrev main_c_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_11 : Ref sig .tc := ⟨.hbm, 95, rfl⟩
abbrev main_v77 : Ref sig .tc := ⟨.hbm, 96, rfl⟩
abbrev main_v78 : Ref sig .tc := ⟨.hbm, 97, rfl⟩
abbrev main_c_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩

abbrev nD : Nat := 1
abbrev τ : Topo := Topo.v7x

variable {F : FTy → Type} [FloatOps F]
-- ==== Proof.KernelFrame.lean ====
/-
  The frame of the kernel at the bit-exact words: the body once by `sl_exec_parts`, every staging buffer handed to it
  and taken back at contents nothing names, and the launch by Lib/Pipeline/FrameSuffix.lean
  `θ_run_frame_around_T_forget`. Nothing of the result is said here.
-/
module

public import proofs.«01_k».proof.Proof.Gen.Kernel.Frame
public import proofs.«01_k».proof.Proof.Gen.Kernel.Skeleton
public import Idealize.ShloMosaic.Lib.Pipeline.FrameSuffix
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref owned on core `c` at contents nothing names. -/
abbrev some' (c : Dev nD) {sp : Space} {S : Shape} {e : EltTy} (M : Memref sig .tc sp S e) : sProp 𝕄 :=
  iprop(∃ d, owns (c : Thread nD τ) M fullShare d)

/-- The body from any nine buffers at any contents runs to its return and hands them back. -/
theorem kernelRun (c : Dev nD) (i : grid0.Coords)
    (M1 : Memref sig .tc .vmem S960x256 .bf16) (h1 : M1.IsWhole) (M2 : Memref sig .tc .vmem S120x2048 .i8) (h2 : M2.IsWhole)
    (M3 : Memref sig .tc .vmem S5x120x2048 .i8) (h3 : M3.IsWhole) (M4 : Memref sig .tc .vmem S1x2048 .f32) (h4 : M4.IsWhole)
    (M5 : Memref sig .tc .vmem S1x2048 .f32) (h5 : M5.IsWhole) (M6 : Memref sig .tc .vmem S1x256 .f32) (h6 : M6.IsWhole)
    (M7 : Memref sig .tc .vmem S2048x256 .f32) (h7 : M7.IsWhole) (M8 : Memref sig .tc .vmem S256x1024 .bf16) (h8 : M8.IsWhole)
    (M9 : Memref sig .tc .vmem S256x128 .f32) (h9 : M9.IsWhole) (K : PUnit → sProp 𝕄) :
    iprop(some' c M1 ∗ some' c M2 ∗ some' c M3 ∗ some' c M4 ∗ some' c M5 ∗ some' c M6 ∗ some' c M7 ∗ some' c M8 ∗ some' c M9
        ∗ (iprop(some' c M1 ∗ some' c M2 ∗ some' c M3 ∗ some' c M4 ∗ some' c M5 ∗ some' c M6 ∗ some' c M7 ∗ some' c M8
              ∗ some' c M9) -∗ K ⟨⟩))
      ⊢ wp frame (wpE (defs₀ (F := F)) Variants.none c none) Set.univ
          (cc0__body i M1 h1 M2 h2 M3 h3 M4 h4 M5 h5 M6 h6 M7 h7 M8 h8 M9 h9) K := by
  unfold some' owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩,
    ⟨%d7, %f7, -, H7⟩, ⟨%d8, %f8, -, H8⟩, ⟨%d9, %f9, -, H9⟩, Hk⟩
  sl_exec_parts
  sl_step
  iapply Hk
  isplitl [H1]; · iexists _, _; isplitr; swap; · iexact H1
                  ipureintro; rfl
  isplitl [H2]; · iexists _, _; isplitr; swap; · iexact H2
                  ipureintro; rfl
  isplitl [H3]; · iexists _, _; isplitr; swap; · iexact H3
                  ipureintro; rfl
  isplitl [H4]; · iexists _, _; isplitr; swap; · iexact H4
                  ipureintro; rfl
  isplitl [H5]; · iexists _, _; isplitr; swap; · iexact H5
                  ipureintro; rfl
  isplitl [H6]; · iexists _, _; isplitr; swap; · iexact H6
                  ipureintro; rfl
  isplitl [H7]; · iexists _, _; isplitr; swap; · iexact H7
                  ipureintro; rfl
  isplitl [H8]; · iexists _, _; isplitr; swap; · iexact H8
                  ipureintro; rfl
  iexists _, _; isplitr; swap; · iexact H9
  ipureintro; rfl

/-! ## The proof data and the body obligation -/

/-- Every window FORGOTTEN: nothing here reads what any staging buffer holds. -/
def forgets0 : Fin cfg0.W → Bool := fun _ => true

/-- The proof data on core `c`: each array as the region finds it; what the body leaves unnamed; the class invariant; full
    shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The arrays of the data are those the region is entered with. -/
theorem A_eq (c : Dev nD) (w : Fin cfg0.W) : (dats m 0 c).A w = V m c (Pipeline.arrRef spec0 w) := by dsimp only [dats]

/-- What the body is called with at point `t`, and what it returns: the invariant and the seven staging memrefs, at any contents. -/
def bodyInv (c : Dev nD) (t : Fin cfg0.N) : sProp 𝕄 :=
  iprop((dats m 0 c).Φ t.castSucc ∗ (dats m 0 c).owesAt () t.castSucc
    ∗ some' c (st0_0 t) ∗ some' c (st0_1 t) ∗ some' c (st0_2 t) ∗ some' c (st0_3 t) ∗ some' c (st0_4 t) ∗ some' c (st0_5 t)
    ∗ some' c (st0_6 t))

/-- The body at the point: the scratches taken out of the invariant, `kernelRun`, the invariant closed. -/
theorem sound_body (c : Dev nD) (t : Fin cfg0.N) :
    bodyInv m c t ⊢ wp frame (wpE (defs₀ (F := F)) Variants.none c none) Set.univ (bodyAt0 t) (fun _ => bodyInv m c t) := by
  unfold bodyInv
  rw [show (dats m 0 c).Φ t.castSucc = Pipeline.ΦA spec0 c from rfl]
  unfold Pipeline.ΦA
  rw [scopedRest0_eq]
  iintro ⟨⟨⟨⟨%f8, H8⟩, ⟨%f9, H9⟩⟩, ⟨%g, Hg⟩⟩, HO, H1, H2, H3, H4, H5, H6, H7⟩
  iapply (kernelRun c (grid0.coords t) (st0_0 t) _ (st0_1 t) _ (st0_2 t) _ (st0_3 t) _ (st0_4 t) _ (st0_5 t) _ (st0_6 t) _
    (Memref.whole cc0_scratch0) (Memref.isWhole_whole _) (Memref.whole cc0_scratch1) (Memref.isWhole_whole _) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists f8; rw [owns_whole]; iexact H8
  isplitl [H9]; · iexists f9; rw [owns_whole]; iexact H9
  iintro ⟨H1, H2, H3, H4, H5, H6, H7, ⟨%d8, H8⟩, ⟨%d9, H9⟩⟩
  isplitl [Hg H8 H9]
  · isplitl [H8 H9]
    · isplitl [H8]; · iexists d8; rw [← owns_whole]; iexact H8
      iexists d9; rw [← owns_whole]; iexact H9
    iexists g; iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write. -/
def written : Finset (Ref sig .tc) := {main_v7, main_v8}

/-- What the lines after the region write is listed. -/
theorem written_of : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl
  · simp only [StableHlo.unary_writes, Finset.mem_singleton] at hb
    have : b = main_v7 := Proc.devRef_injective _ hb
    subst this; decide
  · simp only [StableHlo.reshape_writes, Finset.mem_singleton] at hb
    have : b = main_v8 := Proc.devRef_injective _ hb
    subst this; decide

/-- What `frame` says of a final state. -/
abbrev Kept (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
  ∧ r.2.sem = fun _ => 0

/-- The run's post at the argument arrays. -/
theorem kept_of {r : PUnit × MemSt nD τ sig (Elt F)}
    (h : Pipeline.RDat.FramePostR (cfgs 0) (fun c => (dats (F := F) m 0 c).toRForget forgets0) written (V m) r
      ∧ r.2.sem = fun _ => 0) : Kept m r := by
  refine ⟨fun c => ?_, h.2⟩
  have key : ∀ b : Ref sig .tc, b ∈ Pipeline.restRefs sig spec0 \ written → r.2.mem ((c.tc : Thread nD τ).loc b) = V m c b :=
    (h.1 c).2
  refine ⟨(key _ ?_).trans (V_main_arg0 m c), (key _ ?_).trans (V_main_arg1 m c), (key _ ?_).trans (V_main_arg2 m c),
    (key _ ?_).trans (V_main_arg3 m c), (key _ ?_).trans (V_main_arg4 m c),
    (Pipeline.RDat.FramePostR.arr_in h.1 c 5 rfl).trans (V_main_arg5 m c)⟩
  all_goals exact Finset.mem_sdiff.mpr ⟨Pipeline.mem_restRefs_of _ (by decide) (by decide), by decide⟩

-- `θ_run_frame_around_T_forget`'s implicit arguments are found by unifying its conclusion with this statement, which unifies
-- only when unification may unfold plain definitions in a metavariable's type
set_option backward.isDefEq.respectTransparency.types false in
/-- At any value instance, from any memory with zero counters: every weakly fair execution of @main terminates, with every
    argument array as launched and every counter at zero. -/
theorem frame :
    θ_run defs (onTc (τ := τ) (main (F := F))) (s₀ m ρ) (Kept m) :=
  Pipeline.θ_run_frame_around_T_forget cfgs (dats m) (0 : Fin 1) launch0 defs₀ Variants.none forgets0 written m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := written_of) (hmain := hmain m Variants.none) (hA := A_eq m) (hΦ := fun _ _ => rfl)
    (Q' := Kept m) (hQ' := fun _ h => kept_of m h)

end Cert.Kernel.Hand

end
-- ==== Proof.IdealFrame.lean ====
/-
  The frame of the kernel at the bit-exact words: the body once by `sl_exec_parts`, every staging buffer handed to it
  and taken back at contents nothing names, and the launch by Lib/Pipeline/FrameSuffix.lean
  `θ_run_frame_around_T_forget`. Nothing of the result is said here.
-/
module

public import proofs.«01_k».proof.Proof.Gen.KernelIdeal.Frame
public import proofs.«01_k».proof.Proof.Gen.KernelIdeal.Skeleton
public import Idealize.ShloMosaic.Lib.Pipeline.FrameSuffix
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref owned on core `c` at contents nothing names. -/
abbrev some' (c : Dev nD) {sp : Space} {S : Shape} {e : EltTy} (M : Memref sig .tc sp S e) : sProp 𝕄 :=
  iprop(∃ d, owns (c : Thread nD τ) M fullShare d)

/-- The body from any nine buffers at any contents runs to its return and hands them back. -/
theorem kernelRun (c : Dev nD) (i : grid0.Coords)
    (M1 : Memref sig .tc .vmem S960x256 .bf16) (h1 : M1.IsWhole) (M2 : Memref sig .tc .vmem S120x2048 .i8) (h2 : M2.IsWhole)
    (M3 : Memref sig .tc .vmem S5x120x2048 .i8) (h3 : M3.IsWhole) (M4 : Memref sig .tc .vmem S1x2048 .f32) (h4 : M4.IsWhole)
    (M5 : Memref sig .tc .vmem S1x2048 .f32) (h5 : M5.IsWhole) (M6 : Memref sig .tc .vmem S1x256 .f32) (h6 : M6.IsWhole)
    (M7 : Memref sig .tc .vmem S2048x256 .f32) (h7 : M7.IsWhole) (M8 : Memref sig .tc .vmem S256x1024 .bf16) (h8 : M8.IsWhole)
    (M9 : Memref sig .tc .vmem S256x128 .f32) (h9 : M9.IsWhole) (K : PUnit → sProp 𝕄) :
    iprop(some' c M1 ∗ some' c M2 ∗ some' c M3 ∗ some' c M4 ∗ some' c M5 ∗ some' c M6 ∗ some' c M7 ∗ some' c M8 ∗ some' c M9
        ∗ (iprop(some' c M1 ∗ some' c M2 ∗ some' c M3 ∗ some' c M4 ∗ some' c M5 ∗ some' c M6 ∗ some' c M7 ∗ some' c M8
              ∗ some' c M9) -∗ K ⟨⟩))
      ⊢ wp frame (wpE (defs₀ (F := F)) Variants.none c none) Set.univ
          (cc0__body i M1 h1 M2 h2 M3 h3 M4 h4 M5 h5 M6 h6 M7 h7 M8 h8 M9 h9) K := by
  unfold some' owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩,
    ⟨%d7, %f7, -, H7⟩, ⟨%d8, %f8, -, H8⟩, ⟨%d9, %f9, -, H9⟩, Hk⟩
  sl_exec_parts
  sl_step
  iapply Hk
  isplitl [H1]; · iexists _, _; isplitr; swap; · iexact H1
                  ipureintro; rfl
  isplitl [H2]; · iexists _, _; isplitr; swap; · iexact H2
                  ipureintro; rfl
  isplitl [H3]; · iexists _, _; isplitr; swap; · iexact H3
                  ipureintro; rfl
  isplitl [H4]; · iexists _, _; isplitr; swap; · iexact H4
                  ipureintro; rfl
  isplitl [H5]; · iexists _, _; isplitr; swap; · iexact H5
                  ipureintro; rfl
  isplitl [H6]; · iexists _, _; isplitr; swap; · iexact H6
                  ipureintro; rfl
  isplitl [H7]; · iexists _, _; isplitr; swap; · iexact H7
                  ipureintro; rfl
  isplitl [H8]; · iexists _, _; isplitr; swap; · iexact H8
                  ipureintro; rfl
  iexists _, _; isplitr; swap; · iexact H9
  ipureintro; rfl

/-! ## The proof data and the body obligation -/

/-- Every window FORGOTTEN: nothing here reads what any staging buffer holds. -/
def forgets0 : Fin cfg0.W → Bool := fun _ => true

/-- The proof data on core `c`: each array as the region finds it; what the body leaves unnamed; the class invariant; full
    shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The arrays of the data are those the region is entered with. -/
theorem A_eq (c : Dev nD) (w : Fin cfg0.W) : (dats m 0 c).A w = V m c (Pipeline.arrRef spec0 w) := by dsimp only [dats]

/-- What the body is called with at point `t`, and what it returns: the invariant and the seven staging memrefs, at any contents. -/
def bodyInv (c : Dev nD) (t : Fin cfg0.N) : sProp 𝕄 :=
  iprop((dats m 0 c).Φ t.castSucc ∗ (dats m 0 c).owesAt () t.castSucc
    ∗ some' c (st0_0 t) ∗ some' c (st0_1 t) ∗ some' c (st0_2 t) ∗ some' c (st0_3 t) ∗ some' c (st0_4 t) ∗ some' c (st0_5 t)
    ∗ some' c (st0_6 t))

/-- The body at the point: the scratches taken out of the invariant, `kernelRun`, the invariant closed. -/
theorem sound_body (c : Dev nD) (t : Fin cfg0.N) :
    bodyInv m c t ⊢ wp frame (wpE (defs₀ (F := F)) Variants.none c none) Set.univ (bodyAt0 t) (fun _ => bodyInv m c t) := by
  unfold bodyInv
  rw [show (dats m 0 c).Φ t.castSucc = Pipeline.ΦA spec0 c from rfl]
  unfold Pipeline.ΦA
  rw [scopedRest0_eq]
  iintro ⟨⟨⟨⟨%f8, H8⟩, ⟨%f9, H9⟩⟩, ⟨%g, Hg⟩⟩, HO, H1, H2, H3, H4, H5, H6, H7⟩
  iapply (kernelRun c (grid0.coords t) (st0_0 t) _ (st0_1 t) _ (st0_2 t) _ (st0_3 t) _ (st0_4 t) _ (st0_5 t) _ (st0_6 t) _
    (Memref.whole cc0_scratch0) (Memref.isWhole_whole _) (Memref.whole cc0_scratch1) (Memref.isWhole_whole _) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists f8; rw [owns_whole]; iexact H8
  isplitl [H9]; · iexists f9; rw [owns_whole]; iexact H9
  iintro ⟨H1, H2, H3, H4, H5, H6, H7, ⟨%d8, H8⟩, ⟨%d9, H9⟩⟩
  isplitl [Hg H8 H9]
  · isplitl [H8 H9]
    · isplitl [H8]; · iexists d8; rw [← owns_whole]; iexact H8
      iexists d9; rw [← owns_whole]; iexact H9
    iexists g; iexact Hg
  isplitl [HO]; · iexact HO
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write. -/
def written : Finset (Ref sig .tc) := {main_v7, main_v8}

/-- What the lines after the region write is listed. -/
theorem written_of : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl
  · simp only [StableHlo.unary_writes, Finset.mem_singleton] at hb
    have : b = main_v7 := Proc.devRef_injective _ hb
    subst this; decide
  · simp only [StableHlo.reshape_writes, Finset.mem_singleton] at hb
    have : b = main_v8 := Proc.devRef_injective _ hb
    subst this; decide

/-- What `frame` says of a final state. -/
abbrev Kept (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
  ∧ r.2.sem = fun _ => 0

/-- The run's post at the argument arrays. -/
theorem kept_of {r : PUnit × MemSt nD τ sig (Elt F)}
    (h : Pipeline.RDat.FramePostR (cfgs 0) (fun c => (dats (F := F) m 0 c).toRForget forgets0) written (V m) r
      ∧ r.2.sem = fun _ => 0) : Kept m r := by
  refine ⟨fun c => ?_, h.2⟩
  have key : ∀ b : Ref sig .tc, b ∈ Pipeline.restRefs sig spec0 \ written → r.2.mem ((c.tc : Thread nD τ).loc b) = V m c b :=
    (h.1 c).2
  refine ⟨(key _ ?_).trans (V_main_arg0 m c), (key _ ?_).trans (V_main_arg1 m c), (key _ ?_).trans (V_main_arg2 m c),
    (key _ ?_).trans (V_main_arg3 m c), (key _ ?_).trans (V_main_arg4 m c),
    (Pipeline.RDat.FramePostR.arr_in h.1 c 5 rfl).trans (V_main_arg5 m c)⟩
  all_goals exact Finset.mem_sdiff.mpr ⟨Pipeline.mem_restRefs_of _ (by decide) (by decide), by decide⟩

-- `θ_run_frame_around_T_forget`'s implicit arguments are found by unifying its conclusion with this statement, which unifies
-- only when unification may unfold plain definitions in a metavariable's type
set_option backward.isDefEq.respectTransparency.types false in
/-- At any value instance, from any memory with zero counters: every weakly fair execution of @main terminates, with every
    argument array as launched and every counter at zero. -/
theorem frame :
    θ_run defs (onTc (τ := τ) (main (F := F))) (s₀ m ρ) (Kept m) :=
  Pipeline.θ_run_frame_around_T_forget cfgs (dats m) (0 : Fin 1) launch0 defs₀ Variants.none forgets0 written m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := written_of) (hmain := hmain m Variants.none) (hA := A_eq m) (hΦ := fun _ _ => rfl)
    (Q' := Kept m) (hQ' := fun _ h => kept_of m h)

end Cert.KernelIdeal.Hand

end
-- ==== Proof.BodyRun.lean ====
/-
  The kernel body run on named contents: what each buffer it writes holds afterwards, at a point after the first (the
  scratches read as they are) and at the first point (the scratches written, then read).
-/
module

public import proofs.«01_k».proof.Proof.Gen.KernelIdeal.Frame
public import proofs.«01_k».proof.Proof.Gen.KernelIdeal.Skeleton
public import Idealize.ShloMosaic.Lib.Pipeline.FrameSuffix
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
/-- A memref owned whole, at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The condition of the body's one branch, as printed. -/
abbrev atFirst (i : grid0.Coords) : Prop :=
  Scalar.cmpi .ne (Scalar.extui (Scalar.cmpi .eq (BitVec.ofNat 32 (i 0).val) 0#32) : BitVec 32) 0#32 = 1#1

section
variable (c : Dev nD) (i : grid0.Coords)
    (M1 : Memref sig .tc .vmem S960x256 .bf16) (h1 : M1.IsWhole) (M2 : Memref sig .tc .vmem S120x2048 .i8) (h2 : M2.IsWhole)
    (M3 : Memref sig .tc .vmem S5x120x2048 .i8) (h3 : M3.IsWhole) (M4 : Memref sig .tc .vmem S1x2048 .f32) (h4 : M4.IsWhole)
    (M5 : Memref sig .tc .vmem S1x2048 .f32) (h5 : M5.IsWhole) (M6 : Memref sig .tc .vmem S1x256 .f32) (h6 : M6.IsWhole)
    (M7 : Memref sig .tc .vmem S2048x256 .f32) (h7 : M7.IsWhole) (M8 : Memref sig .tc .vmem S256x1024 .bf16) (h8 : M8.IsWhole)
    (M9 : Memref sig .tc .vmem S256x128 .f32) (h9 : M9.IsWhole)

set_option maxHeartbeats 4000000 in
/-- At a point after the first: the output's contents, a term over the other buffers', with the proof that the body leaves it
    there and everything else as it was. -/
def runLater (hc : ¬ atFirst i) (f1 : Bf (F := F) c M1) (f2 : Bf (F := F) c M2) (f3 : Bf (F := F) c M3) (f4 : Bf (F := F) c M4)
    (f5 : Bf (F := F) c M5) (f6 : Bf (F := F) c M6) (f8 : Bf (F := F) c M8) (f9 : Bf (F := F) c M9) :
    { W : Bf (F := F) c M7 //
      ∀ (f7 : Bf (F := F) c M7) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9
          ∗ (iprop(pt c M1 f1 ∗ pt c M2 f2 ∗ pt c M3 f3 ∗ pt c M4 f4 ∗ pt c M5 f5 ∗ pt c M6 f6 ∗ pt c M7 W ∗ pt c M8 f8
                ∗ pt c M9 f9) -∗ Q ⟨⟩))
        ⊢ wp frame (wpE (defs₀ (F := F)) Variants.none c none) E
            (cc0__body i M1 h1 M2 h2 M3 h3 M4 h4 M5 h5 M6 h6 M7 h7 M8 h8 M9 h9) Q } := by
  refine ⟨?_, fun f7 E Q => ?run⟩
  case run =>
    iintro ⟨H1, H2, H3, H4, H5, H6, H7, H8, H9, Hk⟩
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxHeartbeats 4000000 in
/-- At the first point: the contents of the output and of the two scratches. -/
def runFirst (hc : atFirst i) (f1 : Bf (F := F) c M1) (f2 : Bf (F := F) c M2) (f3 : Bf (F := F) c M3) (f4 : Bf (F := F) c M4)
    (f5 : Bf (F := F) c M5) (f6 : Bf (F := F) c M6) :
    { W : Bf (F := F) c M7 × Bf (F := F) c M8 × Bf (F := F) c M9 //
      ∀ (f7 : Bf (F := F) c M7) (f8 : Bf (F := F) c M8) (f9 : Bf (F := F) c M9) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9
          ∗ (iprop(pt c M1 f1 ∗ pt c M2 f2 ∗ pt c M3 f3 ∗ pt c M4 f4 ∗ pt c M5 f5 ∗ pt c M6 f6 ∗ pt c M7 W.1 ∗ pt c M8 W.2.1
                ∗ pt c M9 W.2.2) -∗ Q ⟨⟩))
        ⊢ wp frame (wpE (defs₀ (F := F)) Variants.none c none) E
            (cc0__body i M1 h1 M2 h2 M3 h3 M4 h4 M5 h5 M6 h6 M7 h7 M8 h8 M9 h9) Q } := by
  refine ⟨⟨?_, ?_, ?_⟩, fun f7 f8 f9 E Q => ?run⟩
  case run =>
    iintro ⟨H1, H2, H3, H4, H5, H6, H7, H8, H9, Hk⟩
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end

end Cert.KernelIdeal.Hand

end
-- ==== Proof.Chunk.lean ====
/-
  The kernel's arithmetic on one chunk of 256 columns, as one function of what the chunk loads, and the body's piece
  lists read off as that function at each of the eight chunks.
-/
module

public import proofs.«01_k».proof.Proof.BodyRun

@[expose] public section

noncomputable section

namespace Cert.KernelIdeal.Val

open Cert.KernelIdeal Cert.KernelIdeal.Gen Cert.KernelIdeal.Hand
open Idealize.ShloMosaic

variable {F : FTy → Type} [FloatOps F]

/-- Four rows of bytes packed into each row of words, after padding 120 rows to 128 with zero bytes. -/
def words (v : IVec S120x256 8) : IVec S32x256 32 :=
  bitcast S32x256 32 (concatenate S128x256 0 [⟨S120x256, v⟩, ⟨S8x256, broadcast S8x256 0#8⟩] concatenates_S120x256_S8x256_S128x256_d0)
    bitcasts_S128x256_w8_S32x256_w32

/-- The bits a delta swap exchanges. -/
def diff (sh mask : BitVec 32) (a b : IVec S32x256 32) : IVec S32x256 32 :=
  andi (xori (shrui a (broadcast S32x256 sh)) b) (broadcast S32x256 mask)

/-- The first word after a delta swap, -/
def lo (sh mask : BitVec 32) (a b : IVec S32x256 32) : IVec S32x256 32 :=
  xori a (shli (diff sh mask a b) (broadcast S32x256 sh))

/-- and the second. -/
def hi (sh mask : BitVec 32) (a b : IVec S32x256 32) : IVec S32x256 32 := xori b (diff sh mask a b)

/-- Swaps of neighbouring words at distance 1, -/
def stage1 (q : Fin 8 → IVec S32x256 32) : Fin 8 → IVec S32x256 32 :=
  ![lo 1#32 1431655765#32 (q 0) (q 1), hi 1#32 1431655765#32 (q 0) (q 1), lo 1#32 1431655765#32 (q 2) (q 3), hi 1#32 1431655765#32 (q 2) (q 3),
    lo 1#32 1431655765#32 (q 4) (q 5), hi 1#32 1431655765#32 (q 4) (q 5), lo 1#32 1431655765#32 (q 6) (q 7), hi 1#32 1431655765#32 (q 6) (q 7)]

/-- at distance 2, -/
def stage2 (q : Fin 8 → IVec S32x256 32) : Fin 8 → IVec S32x256 32 :=
  ![lo 2#32 858993459#32 (q 0) (q 2), lo 2#32 858993459#32 (q 1) (q 3), hi 2#32 858993459#32 (q 0) (q 2), hi 2#32 858993459#32 (q 1) (q 3),
    lo 2#32 858993459#32 (q 4) (q 6), lo 2#32 858993459#32 (q 5) (q 7), hi 2#32 858993459#32 (q 4) (q 6), hi 2#32 858993459#32 (q 5) (q 7)]

/-- and at distance 4. -/
def stage4 (q : Fin 8 → IVec S32x256 32) : Fin 8 → IVec S32x256 32 :=
  ![lo 4#32 252645135#32 (q 0) (q 4), lo 4#32 252645135#32 (q 1) (q 5), lo 4#32 252645135#32 (q 2) (q 6), lo 4#32 252645135#32 (q 3) (q 7),
    hi 4#32 252645135#32 (q 0) (q 4), hi 4#32 252645135#32 (q 1) (q 5), hi 4#32 252645135#32 (q 2) (q 6), hi 4#32 252645135#32 (q 3) (q 7)]

/-- The eight words before the transposition: zeros, ones, the five exponent planes, the sign plane complemented. -/
def planes (s : IVec S120x256 8) (e : Fin 5 → IVec S1x120x256 8) : Fin 8 → IVec S32x256 32 :=
  ![broadcast S32x256 0#32, broadcast S32x256 4294967295#32,
    words (shapeCast S120x256 (e 0) shapeCasts_S1x120x256_S120x256), words (shapeCast S120x256 (e 1) shapeCasts_S1x120x256_S120x256),
    words (shapeCast S120x256 (e 2) shapeCasts_S1x120x256_S120x256), words (shapeCast S120x256 (e 3) shapeCasts_S1x120x256_S120x256),
    words (shapeCast S120x256 (e 4) shapeCasts_S1x120x256_S120x256),
    xori (words (shapeCast S120x256 s shapeCasts_S120x256_S120x256)) (constantI S32x256 32 4294967295#32)]

/-- The codes, eight words of them. -/
def codes (s : IVec S120x256 8) (e : Fin 5 → IVec S1x120x256 8) : Fin 8 → IVec S32x256 32 :=
  stage4 (stage2 (stage1 (planes s e)))

/-- The weights of one chunk: every byte of the codes as a number. -/
def weights (s : IVec S120x256 8) (e : Fin 5 → IVec S1x120x256 8) : FVec F S1024x256 .bf16 :=
  concatenate S1024x256 0
    (List.ofFn fun n : Fin 8 => ⟨S128x256, (sitofp .bf16 (bitcast S128x256 8 (codes s e n) bitcasts_S32x256_w32_S128x256_w8) : FVec F S128x256 .bf16)⟩)
    concatenates_S128x256_S128x256_S128x256_S128x256_S128x256_S128x256_S128x256_S128x256_S1024x256_d0

/-- The block of scores of one chunk. -/
def chunkOut (s : IVec S120x256 8) (e : Fin 5 → IVec S1x120x256 8) (x : FVec F S256x1024 .bf16) (g : FVec F S256x128 .f32)
    (fa fr : FVec F S1x256 .f32) : FVec F S256x256 .f32 :=
  transpose S256x256 [1, 0]
    (addf
      (addf (broadcastTo S256x256 (shapeCast S1x256 fa shapeCasts_S1x256_S1x256) broadcasts_S1x256_S256x256)
        (concatenate S256x256 1 [⟨S256x128, g⟩, ⟨S256x128, g⟩] concatenates_S256x128_S256x128_S256x256_d1))
      (mulf
        (broadcastTo S256x256 (mulf (broadcast S1x256 (Scalar.ofBits .f32 0x3E800000#32)) (shapeCast S1x256 fr shapeCasts_S1x256_S1x256))
          broadcasts_S1x256_S256x256)
        (matmul dot_S256x1024_S1024x256_S256x256_1_0_0_1_n_n none x (weights (F := F) s e) (constant S256x256 .f32 0x00000000#32))))
    transposes_S256x256_p1_0_S256x256

/-- A chunk's columns lie inside the block: of the sign plane, -/
theorem inb_s (k : Fin 8) : ∀ a, (![0, 256 * k.val] : Fin 2 → Nat) a + S120x256.size a ≤ S120x2048.size a := by
  have := k.isLt
  intro a; fin_cases a
  · show 0 + 120 ≤ 120; omega
  · show 256 * k.val + 256 ≤ 2048; omega

/-- of the exponent planes, -/
theorem inb_e (k : Fin 8) (p : Fin 5) : ∀ a, (![p.val, 0, 256 * k.val] : Fin 3 → Nat) a + S1x120x256.size a ≤ S5x120x2048.size a := by
  have := k.isLt; have := p.isLt
  intro a; fin_cases a
  · show p.val + 1 ≤ 5; omega
  · show 0 + 120 ≤ 120; omega
  · show 256 * k.val + 256 ≤ 2048; omega

/-- of the row vectors, -/
theorem inb_v (k : Fin 8) : ∀ a, (![0, 256 * k.val] : Fin 2 → Nat) a + S1x256.size a ≤ S1x2048.size a := by
  have := k.isLt
  intro a; fin_cases a
  · show 0 + 1 ≤ 1; omega
  · show 256 * k.val + 256 ≤ 2048; omega

/-- and of the output. -/
theorem inb_o (k : Fin 8) : ∀ a, (![256 * k.val, 0] : Fin 2 → Nat) a + S256x256.size a ≤ S2048x256.size a := by
  have := k.isLt
  intro a; fin_cases a
  · show 256 * k.val + 256 ≤ 2048; omega
  · show 0 + 256 ≤ 256; omega

/-- What chunk `k` stores, of the four blocks it reads and the two scratches. -/
def piece (X2 : Vec F S120x2048 .i8) (X3 : Vec F S5x120x2048 .i8) (X4 X5 : Vec F S1x2048 .f32) (x : Vec F S256x1024 .bf16)
    (g : Vec F S256x128 .f32) (k : Fin 8) : View.Piece (Elt F) S2048x256 .f32 :=
  ⟨Rect.unit ![256 * k.val, 0] S256x256.size (inb_o k),
    chunkOut (View.ld X2 (Rect.unit ![0, 256 * k.val] S120x256.size (inb_s k)))
      (fun p => View.ld X3 (Rect.unit ![p.val, 0, 256 * k.val] S1x120x256.size (inb_e k p)))
      x g (View.ld X4 (Rect.unit ![0, 256 * k.val] S1x256.size (inb_v k))) (View.ld X5 (Rect.unit ![0, 256 * k.val] S1x256.size (inb_v k)))⟩

/-- The body's stores to the output, last first. -/
def pieces (X2 : Vec F S120x2048 .i8) (X3 : Vec F S5x120x2048 .i8) (X4 X5 : Vec F S1x2048 .f32) (x : Vec F S256x1024 .bf16)
    (g : Vec F S256x128 .f32) : List (View.Piece (Elt F) S2048x256 .f32) :=
  [piece X2 X3 X4 X5 x g 7, piece X2 X3 X4 X5 x g 6, piece X2 X3 X4 X5 x g 5, piece X2 X3 X4 X5 x g 4, piece X2 X3 X4 X5 x g 3,
    piece X2 X3 X4 X5 x g 2, piece X2 X3 X4 X5 x g 1, piece X2 X3 X4 X5 x g 0]

section
variable (c : Dev nD)
    (M1 : Memref sig .tc .vmem S960x256 .bf16) (M2 : Memref sig .tc .vmem S120x2048 .i8)
    (M3 : Memref sig .tc .vmem S5x120x2048 .i8)  (M4 : Memref sig .tc .vmem S1x2048 .f32)
    (M5 : Memref sig .tc .vmem S1x2048 .f32)  (M6 : Memref sig .tc .vmem S1x256 .f32)
    (M8 : Memref sig .tc .vmem S256x1024 .bf16)
    (M9 : Memref sig .tc .vmem S256x128 .f32)
    (f1 : Bf (F := F) c M1) (f2 : Bf (F := F) c M2) (f3 : Bf (F := F) c M3) (f4 : Bf (F := F) c M4)
    (f5 : Bf (F := F) c M5) (f6 : Bf (F := F) c M6) (f8 : Bf (F := F) c M8) (f9 : Bf (F := F) c M9)

/-- A load of a whole scratch. -/
abbrev ld8 (X : Vec F S256x1024 .bf16) : Vec F S256x1024 .bf16 :=
  View.ld X (Rect.unit ![0, 0] S256x1024.size inb_S256x1024_S256x1024_0_0)
/-- The whole second scratch, read. -/
abbrev ld9 (X : Vec F S256x128 .f32) : Vec F S256x128 .f32 :=
  View.ld X (Rect.unit ![0, 0] S256x128.size inb_S256x128_S256x128_0_0)

/-- The body's stores to the output after the first point are the eight chunks of what it reads. -/
theorem later_pieces : runLater.sl.H7_8 c M2 M3 M4 M5 M8 M9 f2 f3 f4 f5 f8 f9
    = pieces (M2.view.read (Elt F) f2) (M3.view.read (Elt F) f3) (M4.view.read (Elt F) f4) (M5.view.read (Elt F) f5)
        (ld8 (M8.view.read (Elt F) f8)) (ld9 (M9.view.read (Elt F) f9)) := by
  simp only [pieces, piece, chunkOut, weights, codes, stage1, stage2, stage4, planes, List.ofFn_succ, List.ofFn_zero]
  simp only [Matrix.cons_val, Fin.succ]
  rfl

/-- At the first point they are the same chunks, of the scratches just written. -/
theorem first_pieces : runFirst.sl.H7_8 c M1 M2 M3 M4 M5 M6 M8 M9 f1 f2 f3 f4 f5 f6
    = pieces (M2.view.read (Elt F) f2) (M3.view.read (Elt F) f3) (M4.view.read (Elt F) f4) (M5.view.read (Elt F) f5)
        (runFirst.sl.v161 c M1 M8 f1) (runFirst.sl.v167 c M6 M9 f6) := by
  simp only [pieces, piece, chunkOut, weights, codes, stage1, stage2, stage4, planes, List.ofFn_succ, List.ofFn_zero]
  simp only [Matrix.cons_val, Fin.succ]
  rfl

end

end Cert.KernelIdeal.Val
-- ==== Proof.Bits.lean ====
/-
  The delta-swap network on eight words, bit by bit: it exchanges a bit's place inside its byte with the number of its
  word. And the number one code is: the signed byte whose bits are 0, 1, the five exponent bits and the sign bit
  complemented is twice `2u - 63`.
-/
module

public import Idealize.ShloMosaic.Lib.BitcastFour
public import Idealize.ShloMosaic.Lib.Pointwise

@[expose] public section

namespace Cert.Bits

open Idealize.ShloMosaic

/-- The bits a delta swap exchanges, -/
def wdiff (sh mask a b : BitVec 32) : BitVec 32 := IntOp.andi (IntOp.xori (IntOp.shrui .vector a sh) b) mask
/-- its first word, -/
def wlo (sh mask a b : BitVec 32) : BitVec 32 := IntOp.xori a (IntOp.shli .vector (wdiff sh mask a b) sh)
/-- and its second. -/
def whi (sh mask a b : BitVec 32) : BitVec 32 := IntOp.xori b (wdiff sh mask a b)

/-- The three stages on words. -/
def ws1 (q : Fin 8 → BitVec 32) : Fin 8 → BitVec 32 :=
  ![wlo 1#32 1431655765#32 (q 0) (q 1), whi 1#32 1431655765#32 (q 0) (q 1), wlo 1#32 1431655765#32 (q 2) (q 3), whi 1#32 1431655765#32 (q 2) (q 3),
    wlo 1#32 1431655765#32 (q 4) (q 5), whi 1#32 1431655765#32 (q 4) (q 5), wlo 1#32 1431655765#32 (q 6) (q 7), whi 1#32 1431655765#32 (q 6) (q 7)]
/-- The stage at distance 2. -/
def ws2 (q : Fin 8 → BitVec 32) : Fin 8 → BitVec 32 :=
  ![wlo 2#32 858993459#32 (q 0) (q 2), wlo 2#32 858993459#32 (q 1) (q 3), whi 2#32 858993459#32 (q 0) (q 2), whi 2#32 858993459#32 (q 1) (q 3),
    wlo 2#32 858993459#32 (q 4) (q 6), wlo 2#32 858993459#32 (q 5) (q 7), whi 2#32 858993459#32 (q 4) (q 6), whi 2#32 858993459#32 (q 5) (q 7)]
/-- The stage at distance 4. -/
def ws4 (q : Fin 8 → BitVec 32) : Fin 8 → BitVec 32 :=
  ![wlo 4#32 252645135#32 (q 0) (q 4), wlo 4#32 252645135#32 (q 1) (q 5), wlo 4#32 252645135#32 (q 2) (q 6), wlo 4#32 252645135#32 (q 3) (q 7),
    whi 4#32 252645135#32 (q 0) (q 4), whi 4#32 252645135#32 (q 1) (q 5), whi 4#32 252645135#32 (q 2) (q 6), whi 4#32 252645135#32 (q 3) (q 7)]

/-- Exchanging twice gives back. -/
theorem xor_xor (a b : Bool) : (b ^^ (a ^^ b)) = a := by cases a <;> cases b <;> rfl

/-- A delta swap at distance 1, bit by bit: where bit `n` stays and where it comes from the other word. -/
theorem wlo1 (a b : BitVec 32) (n : Fin 32) : (wlo 1#32 1431655765#32 a b).getLsbD n.val
    = if n.val / 1 % 2 = 0 then a.getLsbD n.val else b.getLsbD (n.val - 1) := by
  fin_cases n <;> simp [wlo, wdiff, IntOp.xori, IntOp.shli, IntOp.andi, IntOp.shrui]

/-- The second word of a swap at distance 1, bit by bit. -/
theorem whi1 (a b : BitVec 32) (n : Fin 32) : (whi 1#32 1431655765#32 a b).getLsbD n.val
    = if n.val / 1 % 2 = 0 then a.getLsbD (n.val + 1) else b.getLsbD n.val := by
  fin_cases n <;> simp [whi, wdiff, IntOp.xori, IntOp.shli, IntOp.andi, IntOp.shrui, xor_xor]

/-- A delta swap at distance 2, bit by bit: where bit `n` stays and where it comes from the other word. -/
theorem wlo2 (a b : BitVec 32) (n : Fin 32) : (wlo 2#32 858993459#32 a b).getLsbD n.val
    = if n.val / 2 % 2 = 0 then a.getLsbD n.val else b.getLsbD (n.val - 2) := by
  fin_cases n <;> simp [wlo, wdiff, IntOp.xori, IntOp.shli, IntOp.andi, IntOp.shrui]

/-- The second word of a swap at distance 2, bit by bit. -/
theorem whi2 (a b : BitVec 32) (n : Fin 32) : (whi 2#32 858993459#32 a b).getLsbD n.val
    = if n.val / 2 % 2 = 0 then a.getLsbD (n.val + 2) else b.getLsbD n.val := by
  fin_cases n <;> simp [whi, wdiff, IntOp.xori, IntOp.shli, IntOp.andi, IntOp.shrui, xor_xor]

/-- A delta swap at distance 4, bit by bit: where bit `n` stays and where it comes from the other word. -/
theorem wlo4 (a b : BitVec 32) (n : Fin 32) : (wlo 4#32 252645135#32 a b).getLsbD n.val
    = if n.val / 4 % 2 = 0 then a.getLsbD n.val else b.getLsbD (n.val - 4) := by
  fin_cases n <;> simp [wlo, wdiff, IntOp.xori, IntOp.shli, IntOp.andi, IntOp.shrui]

/-- The second word of a swap at distance 4, bit by bit. -/
theorem whi4 (a b : BitVec 32) (n : Fin 32) : (whi 4#32 252645135#32 a b).getLsbD n.val
    = if n.val / 4 % 2 = 0 then a.getLsbD (n.val + 4) else b.getLsbD n.val := by
  fin_cases n <;> simp [whi, wdiff, IntOp.xori, IntOp.shli, IntOp.andi, IntOp.shrui, xor_xor]

/-- The stage at distance 1 exchanges that bit of the word's number with that bit of the bit's place: the word -/
def sw1 (i : Fin 8) (n : Fin 32) : Fin 8 := if i.val / 1 % 2 = n.val / 1 % 2 then i else if i.val / 1 % 2 = 0 then i + 1 else i - 1
/-- and the place. -/
def sb1 (i : Fin 8) (n : Fin 32) : Fin 32 := if i.val / 1 % 2 = n.val / 1 % 2 then n else if n.val / 1 % 2 = 0 then n + 1 else n - 1

/-- The stage at distance 1 moves every bit as `sw1` and `sb1` say. -/
theorem ws1_bit (q : Fin 8 → BitVec 32) (i : Fin 8) (n : Fin 32) :
    (ws1 q i).getLsbD n.val = (q (sw1 i n)).getLsbD (sb1 i n).val := by
  fin_cases i <;> simp only [ws1, Matrix.cons_val, Fin.reduceFinMk, wlo1, whi1] <;> fin_cases n <;> rfl

/-- The stage at distance 2 exchanges that bit of the word's number with that bit of the bit's place: the word -/
def sw2 (i : Fin 8) (n : Fin 32) : Fin 8 := if i.val / 2 % 2 = n.val / 2 % 2 then i else if i.val / 2 % 2 = 0 then i + 2 else i - 2
/-- and the place. -/
def sb2 (i : Fin 8) (n : Fin 32) : Fin 32 := if i.val / 2 % 2 = n.val / 2 % 2 then n else if n.val / 2 % 2 = 0 then n + 2 else n - 2

/-- The stage at distance 2 moves every bit as `sw2` and `sb2` say. -/
theorem ws2_bit (q : Fin 8 → BitVec 32) (i : Fin 8) (n : Fin 32) :
    (ws2 q i).getLsbD n.val = (q (sw2 i n)).getLsbD (sb2 i n).val := by
  fin_cases i <;> simp only [ws2, Matrix.cons_val, Fin.reduceFinMk, wlo2, whi2] <;> fin_cases n <;> rfl

/-- The stage at distance 4 exchanges that bit of the word's number with that bit of the bit's place: the word -/
def sw4 (i : Fin 8) (n : Fin 32) : Fin 8 := if i.val / 4 % 2 = n.val / 4 % 2 then i else if i.val / 4 % 2 = 0 then i + 4 else i - 4
/-- and the place. -/
def sb4 (i : Fin 8) (n : Fin 32) : Fin 32 := if i.val / 4 % 2 = n.val / 4 % 2 then n else if n.val / 4 % 2 = 0 then n + 4 else n - 4

/-- The stage at distance 4 moves every bit as `sw4` and `sb4` say. -/
theorem ws4_bit (q : Fin 8 → BitVec 32) (i : Fin 8) (n : Fin 32) :
    (ws4 q i).getLsbD n.val = (q (sw4 i n)).getLsbD (sb4 i n).val := by
  fin_cases i <;> simp only [ws4, Matrix.cons_val, Fin.reduceFinMk, wlo4, whi4] <;> fin_cases n <;> rfl

/-- Bit `j` of byte `r` of a word is one of its 32 bits. -/
theorem place (j : Fin 8) (r : Fin 4) : 8 * r.val + j.val < 32 := by omega

/-- The three exchanges together exchange the word's number with the bit's place in its byte. -/
theorem network : ∀ (i j : Fin 8) (r : Fin 4),
    sw1 (sw2 (sw4 i ⟨8 * r.val + j.val, place j r⟩) (sb4 i ⟨8 * r.val + j.val, place j r⟩))
        (sb2 (sw4 i ⟨8 * r.val + j.val, place j r⟩) (sb4 i ⟨8 * r.val + j.val, place j r⟩)) = j
      ∧ (sb1 (sw2 (sw4 i ⟨8 * r.val + j.val, place j r⟩) (sb4 i ⟨8 * r.val + j.val, place j r⟩))
        (sb2 (sw4 i ⟨8 * r.val + j.val, place j r⟩) (sb4 i ⟨8 * r.val + j.val, place j r⟩))).val = 8 * r.val + i.val := by
  decide +kernel

/-- The whole network: bit `8ρ + j` of word `i` is bit `8ρ + i` of word `j` before it. -/
theorem codes_bit (q : Fin 8 → BitVec 32) (i : Fin 8) (r : Fin 4) (j : Fin 8) :
    (ws4 (ws2 (ws1 q)) i).getLsbD (8 * r.val + j.val) = (q j).getLsbD (8 * r.val + i.val) := by
  have e := ws4_bit (ws2 (ws1 q)) i ⟨8 * r.val + j.val, place j r⟩
  rw [ws2_bit, ws1_bit, (network i j r).1, (network i j r).2] at e
  exact e

/-- The code's number `u`: the sign bit above the five exponent bits. -/
def uval (s : Bool) (e : Fin 5 → Bool) : ℤ :=
  (if s then 32 else 0) + ((if e 0 then 1 else 0) + (if e 1 then 2 else 0) + (if e 2 then 4 else 0) + (if e 3 then 8 else 0) + (if e 4 then 16 else 0))

/-- The signed byte of a code is twice `2u - 63`. -/
theorem byte_toInt (v : BitVec 8) (s : Bool) (e : Fin 5 → Bool) (h0 : v.getLsbD 0 = false) (h1 : v.getLsbD 1 = true)
    (he : ∀ p : Fin 5, v.getLsbD (p.val + 2) = e p) (h7 : v.getLsbD 7 = !s) : v.toInt = 2 * (2 * uval s e - 63) := by
  obtain rfl : e = fun p : Fin 5 => v.getLsbD (p.val + 2) := funext fun p => (he p).symm
  obtain rfl : s = !v.getLsbD 7 := by rw [h7]; simp
  revert v
  decide +kernel

/-- The 32-bit word the plain mathematics shifts and adds out of the same bits is `2u - 63`. -/
theorem word_toInt (s : Bool) (e : Fin 5 → Bool) :
    (2#32 * ((if s then 1#32 else 0#32) <<< 5 + (if e 0 then 1#32 else 0#32) <<< 0 + (if e 1 then 1#32 else 0#32) <<< 1
      + (if e 2 then 1#32 else 0#32) <<< 2 + (if e 3 then 1#32 else 0#32) <<< 3 + (if e 4 then 1#32 else 0#32) <<< 4) - 63#32).toInt
      = 2 * uval s e - 63 := by
  unfold uval
  generalize e 0 = a0; generalize e 1 = a1; generalize e 2 = a2; generalize e 3 = a3; generalize e 4 = a4
  revert s a0 a1 a2 a3 a4
  decide +kernel

/-- Bit `i` of a byte, as the plain mathematics reads it out of the byte widened. -/
theorem bit_word (b : BitVec 8) (i : Fin 8) :
    IntOp.andi (IntOp.shrsi .host (b.setWidth 32) (BitVec.ofNat 32 i.val)) 1#32 = if b.getLsbD i.val then 1#32 else 0#32 := by
  revert b i
  decide +kernel

end Cert.Bits
-- ==== Proof.CodeVal.lean ====
/-
  The weight the kernel's dot product reads at a row and a column, and the block of scores it leaves, element by element.
-/
module

public import proofs.«01_k».proof.Proof.Chunk
public import proofs.«01_k».proof.Proof.Bits
public import Idealize.ShloMosaic.Lib.Pointwise

@[expose] public section

noncomputable section

namespace Cert.KernelIdeal.Val

open Cert.KernelIdeal Cert.KernelIdeal.Gen Cert.KernelIdeal.Hand Cert.Bits
open Idealize.ShloMosaic

/-- The network acts on the words at each place apart. -/
theorem codes_apply (s : IVec S120x256 8) (e : Fin 5 → IVec S1x120x256 8) (n : Fin 8) (j : S32x256.Idx) :
    codes s e n j = ws4 (ws2 (ws1 fun i => planes s e i j)) n := by
  fin_cases n <;> rfl

/-- A byte plane padded with zero rows. -/
def pad (v : IVec S120x256 8) (r : Fin 128) (l : Fin 256) : BitVec 8 :=
  if h : r.val < 120 then v (ix2 ⟨r.val, h⟩ l) else 0#8

/-- The kernel's concatenation with eight zero rows is the padding. -/
theorem pad_eq (v : IVec S120x256 8) (r : Fin 128) (l : Fin 256) :
    concatenate S128x256 0 [⟨S120x256, v⟩, ⟨S8x256, broadcast S8x256 0#8⟩] concatenates_S120x256_S8x256_S128x256_d0 (ix2 r l) = pad v r l := by
  have hr := r.isLt
  unfold pad
  split
  · next h =>
    exact concatenate_pair_apply_left (t := S128x256) (s₁ := S120x256) (s₂ := S8x256) 0 v (broadcast S8x256 0#8) _ (ix2 r l) rfl
      (ix2 (⟨r.val, h⟩ : Fin 120) l) fun b => match b with
      | ⟨0, _⟩ => rfl
      | ⟨1, _⟩ => rfl
  · next h =>
    exact concatenate_pair_apply_right (t := S128x256) (s₁ := S120x256) (s₂ := S8x256) 0 v (broadcast S8x256 0#8) _ (ix2 r l) rfl rfl
      (ix2 (⟨r.val - 120, by omega⟩ : Fin 8) l)
      (fun b hb => match b, hb with
      | ⟨0, _⟩, hb => absurd rfl hb
      | ⟨1, _⟩, _ => rfl) (by show r.val - 120 + 120 = r.val; omega)

/-- The words of a plane, bit by bit. -/
theorem words_bit (v : IVec S120x256 8) (r : Fin 128) (l : Fin 256) (n : Fin 8) :
    (words v (ix2 (⟨r.val / 4, by omega⟩ : Fin 32) l)).getLsbD (8 * (r.val % 4) + n.val) = (pad v r l).getLsbD n.val := by
  have hr := r.isLt
  have hn := n.isLt
  unfold words
  refine (bitcast_8_32_getLsbD_ix2 _ _ (⟨r.val / 4, by omega⟩ : Fin 32) l _ (by omega) r (by show r.val = 4 * (r.val / 4) + _; omega)).trans ?_
  rw [show (8 * (r.val % 4) + n.val) % 8 = n.val by omega]
  congr 1
  exact pad_eq v r l

/-- A byte of the codes, bit by bit. -/
theorem byte_bit (s : IVec S120x256 8) (e : Fin 5 → IVec S1x120x256 8) (n : Fin 8) (r : Fin 128) (l : Fin 256) (b : Fin 8) :
    (bitcast S128x256 8 (codes s e n) bitcasts_S32x256_w32_S128x256_w8 (ix2 r l)).getLsbD b.val
      = (planes s e b (ix2 (⟨r.val / 4, by omega⟩ : Fin 32) l)).getLsbD (8 * (r.val % 4) + n.val) := by
  have hr := r.isLt
  have hb := b.isLt
  have e1 : (r.val * 8 + b.val) / 32 = r.val / 4 := by omega
  have e2 : (r.val * 8 + b.val) % 32 = 8 * (r.val % 4) + b.val := by omega
  rw [bitcast_getLsbD _ _ _ _ hb (by norm_num)]
  have hrow : Shape.row (s := S128x256) (ix2 r l) = r.val := rfl
  have hi : bitcasts_S32x256_w32_S128x256_w8.srcIdx (ix2 r l) ((Shape.row (s := S128x256) (ix2 r l) * 8 + b.val) / 32)
      (fun a ha => (Nat.div_lt_iff_lt_mul (by norm_num)).2 (bitcasts_S32x256_w32_S128x256_w8.pos_lt (ix2 r l) b.val hb a ha))
      = ix2 (⟨r.val / 4, by omega⟩ : Fin 32) l := by
    funext c
    match c with
    | ⟨0, _⟩ => exact Fin.ext ((bitcasts_S32x256_w32_S128x256_w8.srcIdx_row _ _ _ ⟨0, Nat.zero_lt_two⟩ rfl).trans e1)
    | ⟨1, _⟩ => exact Fin.ext (bitcasts_S32x256_w32_S128x256_w8.srcIdx_other _ _ _ ⟨1, Nat.one_lt_two⟩ (by show ¬ 1 + 2 = 2; omega))
  rw [hi, hrow, e2, codes_apply]
  exact codes_bit _ n ⟨r.val % 4, by omega⟩ b

/-- The number a code's byte is. -/
theorem byte_val (s : IVec S120x256 8) (e : Fin 5 → IVec S1x120x256 8) (n : Fin 8) (r : Fin 128) (l : Fin 256) :
    (bitcast S128x256 8 (codes s e n) bitcasts_S32x256_w32_S128x256_w8 (ix2 r l)).toInt
      = 2 * (2 * uval ((pad s r l).getLsbD n.val) (fun p => (pad (shapeCast S120x256 (e p) shapeCasts_S1x120x256_S120x256) r l).getLsbD n.val) - 63) := by
  have hb := byte_bit s e n r l
  refine byte_toInt _ _ _ ?_ ?_ ?_ ?_
  · refine (hb 0).trans ?_
    show (0#32).getLsbD _ = false
    simp
  · refine (hb 1).trans ?_
    show (4294967295#32).getLsbD _ = true
    have hn := n.isLt
    have : ∀ k : Fin 32, (4294967295#32).getLsbD k.val = true := by decide
    exact this ⟨8 * (r.val % 4) + n.val, by omega⟩
  · intro p
    refine (hb ⟨p.val + 2, by omega⟩).trans ?_
    rw [← words_bit]
    have ep : planes s e ⟨p.val + 2, by omega⟩ = words (shapeCast S120x256 (e p) shapeCasts_S1x120x256_S120x256) := by
      fin_cases p <;> simp only [planes, Matrix.cons_val, Fin.reduceFinMk, Nat.reduceAdd, Fin.mk_zero, Fin.zero_eta, Fin.isValue, Fin.mk_one]
    rw [ep]
  · refine (hb 7).trans ?_
    rw [← words_bit]
    have e7 : planes s e 7 = xori (words s) (constantI S32x256 32 4294967295#32) := by
      simp only [planes, Matrix.cons_val]
      rw [shapeCast_id]
    rw [e7]
    show (words s (ix2 (⟨r.val / 4, _⟩ : Fin 32) l) ^^^ 4294967295#32).getLsbD _ = _
    have hn := n.isLt
    have : ∀ k : Fin 32, (4294967295#32).getLsbD k.val = true := by decide
    rw [BitVec.getLsbD_xor, this ⟨8 * (r.val % 4) + n.val, by omega⟩]
    simp

/-- A column of a byte plane, padded with zero rows. -/
def padc (v : Fin 120 → BitVec 8) (r : Fin 128) : BitVec 8 := if h : r.val < 120 then v ⟨r.val, h⟩ else 0#8

/-- The code's number at row `k` of the weights, of a column of the sign plane and of the exponent planes: bit `k / 128` of the bytes of
    row `k % 128`. -/
def cval (s : Fin 120 → BitVec 8) (e : Fin 5 → Fin 120 → BitVec 8) (k : Fin 1024) : ℤ :=
  2 * uval ((padc s ⟨k.val % 128, Nat.mod_lt _ (by norm_num)⟩).getLsbD (k.val / 128))
    (fun p => (padc (e p) ⟨k.val % 128, Nat.mod_lt _ (by norm_num)⟩).getLsbD (k.val / 128)) - 63

/-- The weight the dot product reads at row `k`, column `l`: twice the code's number. -/
theorem weights_apply (s : IVec S120x256 8) (e : Fin 5 → IVec S1x120x256 8) (k : Fin 1024) (l : Fin 256) :
    weights (F := Ideal) s e (ix2 k l)
      = (((2 * cval (fun r => s (ix2 r l)) (fun p r => e p (ix3 0 r l)) k : ℤ) : ℝ) : EReal) := by
  have hk := k.isLt
  unfold weights
  refine (concatenate_ofFn_apply (t := S1024x256) (s₁ := S128x256) 0 _ _ rfl 128 rfl (ix2 k l) (⟨k.val / 128, by omega⟩ : Fin 8) rfl
    (ix2 (⟨k.val % 128, Nat.mod_lt _ (by norm_num)⟩ : Fin 128) l) rfl
    (fun b hb => match b, hb with
      | ⟨0, _⟩, hb => absurd rfl hb
      | ⟨1, _⟩, _ => rfl)).trans ?_
  refine Eq.trans (b := ((((bitcast S128x256 8 (codes s e ⟨k.val / 128, by omega⟩) bitcasts_S32x256_w32_S128x256_w8
    (ix2 (⟨k.val % 128, Nat.mod_lt _ (by norm_num)⟩ : Fin 128) l)).toInt : ℝ)) : EReal)) rfl ?_
  rw [byte_val]
  congr 3
  unfold cval
  congr 2
  congr 1
  congr 1
  funext p
  congr 1
  show pad _ _ _ = _
  unfold pad padc
  split
  · next h => pointwise
  · rfl

/-- One chunk of scores, element by element. -/
theorem chunkOut_apply (s : IVec S120x256 8) (e : Fin 5 → IVec S1x120x256 8) (x : FVec Ideal S256x1024 .bf16) (g : FVec Ideal S256x128 .f32)
    (fa fr : FVec Ideal S1x256 .f32) (j : Fin 256) (m : Fin 256) :
    chunkOut s e x g fa fr (ix2 j m)
      = (fa (ix2 0 j) + g (ix2 m ⟨j.val % 128, Nat.mod_lt _ (by norm_num)⟩))
        + (Ideal.ofBits .f32 0x3E800000#32 * fr (ix2 0 j)) * ∑ k : Fin 1024, x (ix2 m k) * weights (F := Ideal) s e (ix2 k j) := by
  pointwise [chunkOut]
  have hj := j.isLt
  congr 2
  split
  · next h => congr 2; exact Fin.ext (by show j.val = j.val % 128; omega)
  · next h => congr 2; exact Fin.ext (by show j.val - 128 = j.val % 128; omega)

/-- The block of scores the body leaves, as a function of its index: of the four blocks, the activations and the lane-replicated addend. -/
def scoreBlk (X2 : Vec Ideal S120x2048 .i8) (X3 : Vec Ideal S5x120x2048 .i8) (X4 X5 : Vec Ideal S1x2048 .f32) (x : Vec Ideal S256x1024 .bf16)
    (g : Vec Ideal S256x128 .f32) (J : Fin 2048) (m : Fin 256) : EReal :=
  (X4 (ix2 0 J) + g (ix2 m ⟨J.val % 128, Nat.mod_lt _ (by norm_num)⟩))
    + (Ideal.ofBits .f32 0x3E800000#32 * X5 (ix2 0 J))
      * ∑ k : Fin 1024, x (ix2 m k) * (((2 * cval (fun r => X2 (ix2 r J)) (fun p r => X3 (ix3 p r J)) k : ℤ) : ℝ) : EReal)

/-- A piece's payload is the score block at the piece's place. -/
theorem piece_apply (X2 : Vec Ideal S120x2048 .i8) (X3 : Vec Ideal S5x120x2048 .i8) (X4 X5 : Vec Ideal S1x2048 .f32) (x : Vec Ideal S256x1024 .bf16)
    (g : Vec Ideal S256x128 .f32) (k : Fin 8) (y : (piece X2 X3 X4 X5 x g k).1.shape.Idx) :
    (piece X2 X3 X4 X5 x g k).2 y = scoreBlk X2 X3 X4 X5 x g ((piece X2 X3 X4 X5 x g k).1.emb y 0) ((piece X2 X3 X4 X5 x g k).1.emb y 1) := by
  have hk := k.isLt
  obtain ⟨j, m, rfl⟩ : ∃ (j m : Fin 256), y = ix2 j m := ⟨y 0, y 1, by funext a; fin_cases a <;> rfl⟩
  have hj := j.isLt
  have e0 : (piece X2 X3 X4 X5 x g k).1.emb (ix2 j m) 0 = (⟨256 * k.val + j.val, by omega⟩ : Fin 2048) :=
    Fin.ext (by show 256 * k.val + 1 * j.val = _; rw [one_mul])
  have e1 : (piece X2 X3 X4 X5 x g k).1.emb (ix2 j m) 1 = m := Fin.ext (by show 0 + 1 * m.val = _; omega)
  rw [e0, e1]
  refine (chunkOut_apply _ _ _ _ _ _ j m).trans ?_
  have hr : (Rect.unit (s := S1x2048) ![0, 256 * k.val] S1x256.size (inb_v k)).idx (ix2 0 j) = ix2 0 (⟨256 * k.val + j.val, by omega⟩ : Fin 2048) := by
    funext a
    match a with
    | ⟨0, _⟩ => rfl
    | ⟨1, _⟩ => exact Fin.ext (by show 256 * k.val + 1 * j.val = 256 * k.val + j.val; omega)
  have hs : ∀ r : Fin 120, (Rect.unit (s := S120x2048) ![0, 256 * k.val] S120x256.size (inb_s k)).idx (ix2 r j) = ix2 r (⟨256 * k.val + j.val, by omega⟩ : Fin 2048) := by
    intro r
    funext a
    match a with
    | ⟨0, _⟩ => exact Fin.ext (by show 0 + 1 * r.val = r.val; omega)
    | ⟨1, _⟩ => exact Fin.ext (by show 256 * k.val + 1 * j.val = 256 * k.val + j.val; omega)
  have he : ∀ (p : Fin 5) (r : Fin 120), (Rect.unit (s := S5x120x2048) ![p.val, 0, 256 * k.val] S1x120x256.size (inb_e k p)).idx (ix3 0 r j)
      = ix3 p r (⟨256 * k.val + j.val, by omega⟩ : Fin 2048) := by
    intro p r
    funext a
    match a with
    | ⟨0, _⟩ => exact Fin.ext (by show p.val + 1 * 0 = p.val; omega)
    | ⟨1, _⟩ => exact Fin.ext (by show 0 + 1 * r.val = r.val; omega)
    | ⟨2, _⟩ => exact Fin.ext (by show 256 * k.val + 1 * j.val = 256 * k.val + j.val; omega)
  unfold scoreBlk
  simp only [weights_apply, View.ld, hr, hs, he]
  congr 4
  exact Fin.ext (by show j.val % 128 = (256 * k.val + j.val) % 128; omega)

/-- What the eight stores leave is the score block. -/
theorem canon_pieces (X2 : Vec Ideal S120x2048 .i8) (X3 : Vec Ideal S5x120x2048 .i8) (X4 X5 : Vec Ideal S1x2048 .f32) (x : Vec Ideal S256x1024 .bf16)
    (g : Vec Ideal S256x128 .f32) (J : Fin 2048) (m : Fin 256) :
    View.canon (pieces X2 X3 X4 X5 x g) (ix2 J m) = scoreBlk X2 X3 X4 X5 x g J m := by
  have hJ := J.isLt
  refine View.canon_apply_of_pieces (Val := Elt Ideal) (S := S2048x256) (e := .f32) (fun y => scoreBlk X2 X3 X4 X5 x g (y 0) (y 1)) _ ?_ _ ?_
  · intro p hp y
    simp only [pieces, List.mem_cons, List.not_mem_nil, or_false] at hp
    rcases hp with rfl | rfl | rfl | rfl | rfl | rfl | rfl | rfl <;> exact piece_apply X2 X3 X4 X5 x g _ y
  · refine ⟨piece X2 X3 X4 X5 x g ⟨J.val / 256, by omega⟩, ?_, ?_⟩
    · have : ∀ k : Fin 8, piece X2 X3 X4 X5 x g k ∈ pieces X2 X3 X4 X5 x g := by
        intro k; fin_cases k <;> simp [pieces]
      exact this _
    · refine (Rect.mem_set_unit (inb := inb_o ⟨J.val / 256, by omega⟩)).mpr fun a => ?_
      match a with
      | ⟨0, _⟩ =>
        show 256 * (J.val / 256) ≤ J.val ∧ J.val < 256 * (J.val / 256) + 256
        omega
      | ⟨1, _⟩ =>
        show 0 ≤ m.val ∧ m.val < 0 + 256
        omega

end Cert.KernelIdeal.Val
-- ==== Proof.FirstPoint.lean ====
/-
  What the first point writes to the two scratches, and the body's runs stated on what the buffers hold.
-/
module

public import proofs.«01_k».proof.Proof.CodeVal
public import Idealize.ShloMosaic.Lib.Pipeline.ReadBack

@[expose] public section

noncomputable section

namespace Cert.KernelIdeal.Val

open Cert.KernelIdeal Cert.KernelIdeal.Gen Cert.KernelIdeal.Hand Cert.Bits
open Idealize.ShloMosaic

variable {F : FTy → Type} [FloatOps F]

/-- The activations laid out for the dot product: row `k` of group `i` of 128 is feature `120 i + k`, and zero in the last eight. -/
def xsOf (X1 : Vec F S960x256 .bf16) : Vec F S256x1024 .bf16 := fun y =>
  if h : (y 1).val % 128 < 120 then X1 (ix2 (⟨(y 1).val / 128 * 120 + (y 1).val % 128, by have := (y 1).isLt; simp at this; omega⟩ : Fin 960) (y 0))
  else Scalar.ofBits .bf16 0x0000#16

/-- The addend of each query in every lane. -/
def gOf (X6 : Vec F S1x256 .f32) : Vec F S256x128 .f32 := fun y => X6 (ix2 0 (y 0))

/-- The stores of the eight groups are inside the scratch. -/
theorem inb_x (k : Fin 8) : ∀ a, (![0, 128 * k.val] : Fin 2 → Nat) a + S256x120.size a ≤ S256x1024.size a := by
  have := k.isLt
  intro a; fin_cases a
  · show 0 + 256 ≤ 256; omega
  · show 128 * k.val + 120 ≤ 1024; omega

/-- The loads of the eight groups are inside the activations. -/
theorem inb_x1 (k : Fin 8) : ∀ a, (![120 * k.val, 0] : Fin 2 → Nat) a + S120x256.size a ≤ S960x256.size a := by
  have := k.isLt
  intro a; fin_cases a
  · show 120 * k.val + 120 ≤ 960; omega
  · show 0 + 256 ≤ 256; omega

/-- A group of the activations turned over. -/
def xpay (v : Vec F S120x256 .bf16) : Vec F S256x120 .bf16 :=
  shapeCast S256x120 (transpose S256x120 [1, 0] (shapeCast S120x256 v shapeCasts_S120x256_S120x256) transposes_S120x256_p1_0_S256x120)
    shapeCasts_S256x120_S256x120

/-- The turned group at an index. -/
theorem xpay_apply (v : Vec F S120x256 .bf16) (j : Fin 256) (m : Fin 120) : xpay v (ix2 j m) = v (ix2 m j) := by
  pointwise [xpay]

/-- The store of group `k` of the activations, -/
def xpiece (X1 : Vec F S960x256 .bf16) (k : Fin 8) : View.Piece (Elt F) S256x1024 .bf16 :=
  ⟨Rect.unit ![0, 128 * k.val] S256x120.size (inb_x k),
    xpay (View.ld X1 (Rect.unit ![120 * k.val, 0] S120x256.size (inb_x1 k)))⟩

/-- all eight, last first, -/
def xpieces (X1 : Vec F S960x256 .bf16) : List (View.Piece (Elt F) S256x1024 .bf16) :=
  [xpiece X1 7, xpiece X1 6, xpiece X1 5, xpiece X1 4, xpiece X1 3, xpiece X1 2, xpiece X1 1, xpiece X1 0]

/-- and the store of zeros they follow. -/
def xzero : View.Piece (Elt F) S256x1024 .bf16 := ⟨Rect.unit ![0, 0] S256x1024.size inb_S256x1024_S256x1024_0_0, k0_pay1⟩

/-- What is stored for a group is the layout at the group's place. -/
theorem xpiece_apply (X1 : Vec F S960x256 .bf16) (k : Fin 8) (y : (xpiece X1 k).1.shape.Idx) :
    (xpiece X1 k).2 y = xsOf X1 ((xpiece X1 k).1.emb y) := by
  have hk := k.isLt
  obtain ⟨j, m, rfl⟩ : ∃ (j : Fin 256) (m : Fin 120), y = ix2 j m := ⟨y 0, y 1, by funext a; fin_cases a <;> rfl⟩
  have hm := m.isLt
  have e : (xpiece X1 k).1.emb (ix2 j m) = ix2 j (⟨128 * k.val + m.val, by omega⟩ : Fin 1024) := by
    funext a
    match a with
    | ⟨0, _⟩ => exact Fin.ext (by show 0 + 1 * j.val = j.val; omega)
    | ⟨1, _⟩ => exact Fin.ext (by show 128 * k.val + 1 * m.val = 128 * k.val + m.val; omega)
  rw [e]
  refine Eq.trans ?_ (dif_pos (show (128 * k.val + m.val) % 128 < 120 by omega)).symm
  change xpay (View.ld X1 (Rect.unit ![120 * k.val, 0] S120x256.size (inb_x1 k))) (ix2 j m) = _
  rw [xpay_apply]
  refine congrArg X1 ?_
  funext a
  match a with
  | ⟨0, _⟩ => exact Fin.ext (by show 120 * k.val + 1 * m.val = (128 * k.val + m.val) / 128 * 120 + (128 * k.val + m.val) % 128; omega)
  | ⟨1, _⟩ => exact Fin.ext (by show 0 + 1 * j.val = j.val; omega)

/-- The first scratch after the first point's stores. -/
theorem canon_xs (X1 : Vec F S960x256 .bf16) : View.canon (xpieces X1 ++ [xzero]) = xsOf X1 := by
  funext y
  by_cases h : (y 1).val % 128 < 120
  · have h1 : (y 1).val < 1024 := (y 1).isLt
    refine View.canon_append_of_piecesOf (xsOf X1) [xzero] (xpieces X1) ⟨xpiece_apply X1 7, xpiece_apply X1 6, xpiece_apply X1 5,
      xpiece_apply X1 4, xpiece_apply X1 3, xpiece_apply X1 2, xpiece_apply X1 1, xpiece_apply X1 0, trivial⟩ y ?_
    refine ⟨xpiece X1 ⟨(y 1).val / 128, by omega⟩, ?_, ?_⟩
    · have : ∀ k : Fin 8, xpiece X1 k ∈ xpieces X1 := by
        intro k; fin_cases k <;> simp [xpieces]
      exact this _
    · refine (Rect.mem_set_unit (inb := inb_x ⟨(y 1).val / 128, by omega⟩)).mpr fun a => ?_
      match a with
      | ⟨0, _⟩ => exact ⟨Nat.zero_le _, by have : (y 0).val < 256 := (y 0).isLt; show (y 0).val < 0 + 256; omega⟩
      | ⟨1, _⟩ =>
        show 128 * ((y 1).val / 128) ≤ (y 1).val ∧ (y 1).val < 128 * ((y 1).val / 128) + 120
        omega
  · have out : ∀ k : Fin 8, y ∉ (xpiece X1 k).1.set := by
      intro k hk
      have := (Rect.mem_set_unit (inb := inb_x k)).mp hk ⟨1, by decide⟩
      have h2 : 128 * k.val ≤ (y 1).val ∧ (y 1).val < 128 * k.val + 120 := this
      omega
    unfold xpieces
    simp only [List.cons_append, List.nil_append]
    rw [View.canon_cons_of_not_mem _ _ (out 7), View.canon_cons_of_not_mem _ _ (out 6), View.canon_cons_of_not_mem _ _ (out 5),
      View.canon_cons_of_not_mem _ _ (out 4), View.canon_cons_of_not_mem _ _ (out 3), View.canon_cons_of_not_mem _ _ (out 2),
      View.canon_cons_of_not_mem _ _ (out 1), View.canon_cons_of_not_mem _ _ (out 0)]
    unfold xzero
    rw [View.canon_unit_zero (by funext a; fin_cases a <;> rfl)]
    unfold xsOf
    rw [dif_neg h]
    rfl

section
variable (c : Dev nD) (M1 : Memref sig .tc .vmem S960x256 .bf16) (M6 : Memref sig .tc .vmem S1x256 .f32)
    (M8 : Memref sig .tc .vmem S256x1024 .bf16) (M9 : Memref sig .tc .vmem S256x128 .f32)
    (f1 : Bf (F := F) c M1) (f6 : Bf (F := F) c M6)

/-- The offsets of a whole read. -/
theorem zz2 : (![0, 0] : Fin 2 → Nat) = fun _ => 0 := by funext a; fin_cases a <;> rfl

/-- The first scratch after the first point. -/
theorem first_xs : View.canon (runFirst.sl.H8_9 c M1 f1) = xsOf (M1.view.read (Elt F) f1) := canon_xs _

/-- The second scratch after the first point. -/
theorem first_g : View.canon (runFirst.sl.H9_1 c M6 f6) = gOf (M6.view.read (Elt F) f6) := by
  unfold runFirst.sl.H9_1
  rw [View.canon_unit_zero zz2]
  funext y
  obtain ⟨j, m, rfl⟩ : ∃ (j : Fin 256) (m : Fin 128), y = ix2 j m := ⟨y 0, y 1, by funext a; fin_cases a <;> rfl⟩
  pointwise [k0_pay11, gOf]
  exact congrFun (View.ld_unit_zero zz2 _ (M6.view.read (Elt F) f6)) _

/-- The first scratch as the first point reads it back. -/
theorem first_v161 : runFirst.sl.v161 c M1 M8 f1 = xsOf (M1.view.read (Elt F) f1) := by
  unfold runFirst.sl.v161
  rw [View.readCov_eq_canon', first_xs]
  exact View.ld_unit_zero zz2 _ _

/-- The second scratch as the first point reads it back. -/
theorem first_v167 : runFirst.sl.v167 c M6 M9 f6 = gOf (M6.view.read (Elt F) f6) := by
  unfold runFirst.sl.v167
  rw [View.readCov_eq_canon', first_g]
  exact View.ld_unit_zero zz2 _ _

end

end Cert.KernelIdeal.Val
-- ==== Proof.BodyOwn.lean ====
/-
  The body's two runs stated on what the memrefs hold: at a point after the first the two scratches are read, at the first
  they are written first. Either way the output ends as the eight pieces over the scratches.
-/
module

public import proofs.«01_k».proof.Proof.FirstPoint
public import proofs.«01_k».proof.Proof.IdealFrame

@[expose] public section

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
    (M1 : Memref sig .tc .vmem S960x256 .bf16) (h1 : M1.IsWhole) (M2 : Memref sig .tc .vmem S120x2048 .i8) (h2 : M2.IsWhole)
    (M3 : Memref sig .tc .vmem S5x120x2048 .i8) (h3 : M3.IsWhole) (M4 : Memref sig .tc .vmem S1x2048 .f32) (h4 : M4.IsWhole)
    (M5 : Memref sig .tc .vmem S1x2048 .f32) (h5 : M5.IsWhole) (M6 : Memref sig .tc .vmem S1x256 .f32) (h6 : M6.IsWhole)
    (M7 : Memref sig .tc .vmem S2048x256 .f32) (h7 : M7.IsWhole) (M8 : Memref sig .tc .vmem S256x1024 .bf16) (h8 : M8.IsWhole)
    (M9 : Memref sig .tc .vmem S256x128 .f32) (h9 : M9.IsWhole)
    (X1 : Vec F S960x256 .bf16) (X2 : Vec F S120x2048 .i8) (X3 : Vec F S5x120x2048 .i8) (X4 X5 : Vec F S1x2048 .f32)
    (X6 : Vec F S1x256 .f32) (x : Vec F S256x1024 .bf16) (g : Vec F S256x128 .f32)

/-- What the body leaves: the inputs as they were, the output at the pieces over `x` and `g`, the scratches at `x` and `g`. -/
def bodyPost : sProp 𝕄 :=
  iprop(owns (c : Thread nD τ) M1 fullShare X1 ∗ owns (c : Thread nD τ) M2 fullShare X2 ∗ owns (c : Thread nD τ) M3 fullShare X3
    ∗ owns (c : Thread nD τ) M4 fullShare X4 ∗ owns (c : Thread nD τ) M5 fullShare X5 ∗ owns (c : Thread nD τ) M6 fullShare X6
    ∗ owns (c : Thread nD τ) M7 fullShare (View.canon (pieces X2 X3 X4 X5 x g)) ∗ owns (c : Thread nD τ) M8 fullShare x
    ∗ owns (c : Thread nD τ) M9 fullShare g)

/-- A point after the first. -/
theorem bodyLater (hc : ¬ atFirst i) (K : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ some' c M7 ∗ owns (c : Thread nD τ) M8 fullShare x ∗ owns (c : Thread nD τ) M9 fullShare g
        ∗ (bodyPost c M1 M2 M3 M4 M5 M6 M7 M8 M9 X1 X2 X3 X4 X5 X6 x g -∗ K ⟨⟩))
      ⊢ wp frame (wpE (defs₀ (F := F)) Variants.none c none) Set.univ
          (cc0__body i M1 h1 M2 h2 M3 h3 M4 h4 M5 h5 M6 h6 M7 h7 M8 h8 M9 h9) K := by
  unfold bodyPost some' owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, ⟨%f8, %e8, H8⟩, ⟨%f9, %e9, H9⟩, Hk⟩
  iapply ((runLater c i M1 h1 M2 h2 M3 h3 M4 h4 M5 h5 M6 h6 M7 h7 M8 h8 M9 h9 hc f1 f2 f3 f4 f5 f6 f8 f9).2 f7 Set.univ _)
  have e7 : M7.view.read (Elt F) (runLater c i M1 h1 M2 h2 M3 h3 M4 h4 M5 h5 M6 h6 M7 h7 M8 h8 M9 h9 hc f1 f2 f3 f4 f5 f6 f8 f9).1
      = View.canon (pieces X2 X3 X4 X5 x g) := by
    refine (View.read_writes_junk_eq_canon _ _).trans ?_
    rw [later_pieces, e2, e3, e4, e5, e8, e9]
    congr 2
    · exact View.ld_unit_zero zz2 _ _
    · exact View.ld_unit_zero zz2 _ _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists _; isplitr; · ipureintro; exact e7
                  iexact H7
  isplitl [H8]; · iexists f8; isplitr; · ipureintro; exact e8
                  iexact H8
  iexists f9; isplitr; · ipureintro; exact e9
  iexact H9

/-- The first point, whatever the scratches held. -/
theorem bodyFirst (hc : atFirst i) (K : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ some' c M7 ∗ some' c M8 ∗ some' c M9
        ∗ (bodyPost c M1 M2 M3 M4 M5 M6 M7 M8 M9 X1 X2 X3 X4 X5 X6 (xsOf X1) (gOf X6) -∗ K ⟨⟩))
      ⊢ wp frame (wpE (defs₀ (F := F)) Variants.none c none) Set.univ
          (cc0__body i M1 h1 M2 h2 M3 h3 M4 h4 M5 h5 M6 h6 M7 h7 M8 h8 M9 h9) K := by
  unfold bodyPost some' owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, ⟨%d8, %f8, -, H8⟩, ⟨%d9, %f9, -, H9⟩, Hk⟩
  iapply ((runFirst c i M1 h1 M2 h2 M3 h3 M4 h4 M5 h5 M6 h6 M7 h7 M8 h8 M9 h9 hc f1 f2 f3 f4 f5 f6).2 f7 f8 f9 Set.univ _)
  have e7 : M7.view.read (Elt F) (runFirst c i M1 h1 M2 h2 M3 h3 M4 h4 M5 h5 M6 h6 M7 h7 M8 h8 M9 h9 hc f1 f2 f3 f4 f5 f6).1.1
      = View.canon (pieces X2 X3 X4 X5 (xsOf X1) (gOf X6)) := by
    refine (View.read_writes_junk_eq_canon _ _).trans ?_
    rw [first_pieces, first_v161, first_v167, e1, e2, e3, e4, e5, e6]
  have e8 : M8.view.read (Elt F) (runFirst c i M1 h1 M2 h2 M3 h3 M4 h4 M5 h5 M6 h6 M7 h7 M8 h8 M9 h9 hc f1 f2 f3 f4 f5 f6).1.2.1
      = xsOf X1 := by
    refine (View.read_writes_junk_eq_canon _ _).trans ?_
    rw [first_xs, e1]
  have e9 : M9.view.read (Elt F) (runFirst c i M1 h1 M2 h2 M3 h3 M4 h4 M5 h5 M6 h6 M7 h7 M8 h8 M9 h9 hc f1 f2 f3 f4 f5 f6).1.2.2
      = gOf X6 := by
    refine (View.read_writes_junk_eq_canon _ _).trans ?_
    rw [first_g, e6]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists _; isplitr; · ipureintro; exact e7
                  iexact H7
  isplitl [H8]; · iexists _; isplitr; · ipureintro; exact e8
                  iexact H8
  iexists _; isplitr; · ipureintro; exact e9
  iexact H9

end

end Cert.KernelIdeal.Val

end
-- ==== Proof.Edge.lean ====
/-
  What the seven windows move at a point: a block row or column inside the array is the array's own, whatever stands past
  the array's end in a block that overhangs it.
-/
module

public import proofs.«01_k».proof.Proof.BodyOwn
public import Idealize.ShloMosaic.Lib.Pipeline.Value

@[expose] public section

noncomputable section

namespace Cert.KernelIdeal.Val

open Cert.KernelIdeal Cert.KernelIdeal.Gen Cert.KernelIdeal.Hand
open Idealize.ShloMosaic Idealize.ShloMosaic.TcCoe
open Idealize.ShloMosaic.Pipeline (Dat Window)

variable {F : FTy → Type} [FloatOps F]
variable (m : (ℓ : Loc nD τ sig) → Buf (Elt F) ℓ) (c : Dev nD)

/-- The grid is one axis of 147 points: a point's coordinate is its number. -/
theorem coord_val : ∀ t : Fin cfg0.N, (grid0.coords t 0).val = t.val := by decide +kernel

/-- The grid has 147 points. -/
theorem t_lt (t : Fin cfg0.N) : t.val < 147 := t.isLt

/-- The block number a window's index map returns, read back from its 32-bit word. -/
theorem word_val (t : Fin cfg0.N) : (BitVec.ofNat 32 (grid0.coords t 0).val).toNat = t.val := by
  rw [coord_val, BitVec.toNat_ofNat]
  have := t_lt t
  exact Nat.mod_eq_of_lt (by omega)

/-- The part of block `ix` of `k` rows moved, of `d` rows in all. -/
theorem extent_of {ix k d : Nat} : (Pipeline.Clip.of ix k d).extent k = if (ix + 1) * k ≤ d then k else d - ix * k := by
  unfold Pipeline.Clip.of; split <;> rfl

/-- A position of a block is inside the block's extent exactly when it is inside the array. -/
theorem lt_extent {ix k d j : Nat} (hj : j < k) : j < (Pipeline.Clip.of ix k d).extent k ↔ ix * k + j < d := by
  rw [extent_of]; split
  · rename_i h; rw [Nat.succ_mul] at h; omega
  · omega

/-- The sign plane's buffer at a column inside the array. -/
theorem fill_1 (t : Fin cfg0.N) (d) (r : Fin 120) (J : Fin 2048) (h : t.val * 2048 + J.val < 300000) :
    win0_1.fill (grid0.coords t) d (iblk m c 1 t) (ix2 r J) = V m c main_v2 (ix2 r ⟨t.val * 2048 + J.val, h⟩) := by
  have hm : win0_1.moved (grid0.coords t) (ix2 r J) = true := by
    refine (win0_1.moved_iff _ _).mpr fun a => ?_
    match a with
    | ⟨0, _⟩ => exact (lt_extent r.isLt).mpr (by show 0 * 120 + r.val < 120; omega)
    | ⟨1, _⟩ => exact (lt_extent J.isLt).mpr (by show (BitVec.ofNat 32 (grid0.coords t 0).val).toNat * 2048 + J.val < 300000; rw [word_val]; exact h)
  unfold Window.fill
  rw [dif_pos hm]
  refine congrArg (V m c main_v2) (funext fun a => Fin.ext ?_)
  refine (win0_1.rect_emb_val_off t _ a).trans ?_
  match a with
  | ⟨0, _⟩ => show 0 * 120 + r.val = r.val; omega
  | ⟨1, _⟩ => show (BitVec.ofNat 32 (grid0.coords t 0).val).toNat * 2048 + J.val = t.val * 2048 + J.val; rw [word_val]

/-- The exponent planes' buffer at a column inside the array. -/
theorem fill_2 (t : Fin cfg0.N) (d) (p : Fin 5) (r : Fin 120) (J : Fin 2048) (h : t.val * 2048 + J.val < 300000) :
    win0_2.fill (grid0.coords t) d (iblk m c 2 t) (ix3 p r J) = V m c main_v3 (ix3 p r ⟨t.val * 2048 + J.val, h⟩) := by
  have hm : win0_2.moved (grid0.coords t) (ix3 p r J) = true := by
    refine (win0_2.moved_iff _ _).mpr fun a => ?_
    match a with
    | ⟨0, _⟩ => exact (lt_extent p.isLt).mpr (by show 0 * 5 + p.val < 5; omega)
    | ⟨1, _⟩ => exact (lt_extent r.isLt).mpr (by show 0 * 120 + r.val < 120; omega)
    | ⟨2, _⟩ => exact (lt_extent J.isLt).mpr (by show (BitVec.ofNat 32 (grid0.coords t 0).val).toNat * 2048 + J.val < 300000; rw [word_val]; exact h)
  unfold Window.fill
  rw [dif_pos hm]
  refine congrArg (V m c main_v3) (funext fun a => Fin.ext ?_)
  refine (win0_2.rect_emb_val_off t _ a).trans ?_
  match a with
  | ⟨0, _⟩ => show 0 * 5 + p.val = p.val; omega
  | ⟨1, _⟩ => show 0 * 120 + r.val = r.val; omega
  | ⟨2, _⟩ => show (BitVec.ofNat 32 (grid0.coords t 0).val).toNat * 2048 + J.val = t.val * 2048 + J.val; rw [word_val]

/-- The documents' addends at a column inside the array. -/
theorem fill_3 (t : Fin cfg0.N) (d) (J : Fin 2048) (h : t.val * 2048 + J.val < 300000) :
    win0_3.fill (grid0.coords t) d (iblk m c 3 t) (ix2 0 J) = V m c main_v4 (ix2 0 ⟨t.val * 2048 + J.val, h⟩) := by
  have hm : win0_3.moved (grid0.coords t) (ix2 0 J) = true := by
    refine (win0_3.moved_iff _ _).mpr fun a => ?_
    match a with
    | ⟨0, _⟩ => exact (lt_extent Nat.one_pos).mpr (by show 0 * 1 + 0 < 1; omega)
    | ⟨1, _⟩ => exact (lt_extent J.isLt).mpr (by show (BitVec.ofNat 32 (grid0.coords t 0).val).toNat * 2048 + J.val < 300000; rw [word_val]; exact h)
  unfold Window.fill
  rw [dif_pos hm]
  refine congrArg (V m c main_v4) (funext fun a => Fin.ext ?_)
  refine (win0_3.rect_emb_val_off t _ a).trans ?_
  match a with
  | ⟨0, _⟩ => rfl
  | ⟨1, _⟩ => show (BitVec.ofNat 32 (grid0.coords t 0).val).toNat * 2048 + J.val = t.val * 2048 + J.val; rw [word_val]

/-- The documents' factors at a column inside the array. -/
theorem fill_4 (t : Fin cfg0.N) (d) (J : Fin 2048) (h : t.val * 2048 + J.val < 300000) :
    win0_4.fill (grid0.coords t) d (iblk m c 4 t) (ix2 0 J) = V m c main_v5 (ix2 0 ⟨t.val * 2048 + J.val, h⟩) := by
  have hm : win0_4.moved (grid0.coords t) (ix2 0 J) = true := by
    refine (win0_4.moved_iff _ _).mpr fun a => ?_
    match a with
    | ⟨0, _⟩ => exact (lt_extent Nat.one_pos).mpr (by show 0 * 1 + 0 < 1; omega)
    | ⟨1, _⟩ => exact (lt_extent J.isLt).mpr (by show (BitVec.ofNat 32 (grid0.coords t 0).val).toNat * 2048 + J.val < 300000; rw [word_val]; exact h)
  unfold Window.fill
  rw [dif_pos hm]
  refine congrArg (V m c main_v5) (funext fun a => Fin.ext ?_)
  refine (win0_4.rect_emb_val_off t _ a).trans ?_
  match a with
  | ⟨0, _⟩ => rfl
  | ⟨1, _⟩ => show (BitVec.ofNat 32 (grid0.coords t 0).val).toNat * 2048 + J.val = t.val * 2048 + J.val; rw [word_val]

/-- The two windows of one block read their whole arrays. -/
theorem blk_0 (t : Fin cfg0.N) : (iblk m c 0 t : Vec F S960x256 .bf16) = V m c main_v1 := by
  funext y
  refine congrArg (V m c main_v1) (funext fun a => Fin.ext ?_)
  refine (win0_0.rect_emb_val_off t _ a).trans ?_
  match a with
  | ⟨0, _⟩ => show 0 * 960 + (y 0).val = (y 0).val; omega
  | ⟨1, _⟩ => show 0 * 256 + (y 1).val = (y 1).val; omega

/-- The queries' addends come whole at every point. -/
theorem blk_5 (t : Fin cfg0.N) : (iblk m c 5 t : Vec F S1x256 .f32) = V m c main_arg5 := by
  funext y
  refine congrArg (V m c main_arg5) (funext fun a => Fin.ext ?_)
  refine (win0_5.rect_emb_val_off t _ a).trans ?_
  match a with
  | ⟨0, _⟩ => show 0 * 1 + (y 0).val = (y 0).val; omega
  | ⟨1, _⟩ => show 0 * 256 + (y 1).val = (y 1).val; omega

/-- A staged output block that has the array's rows where it is inside the array is written back as the array's block. -/
theorem cut_6 (t : Fin cfg0.N) (G : Vec F S300000x256 .f32) (X : Vec F S2048x256 .f32)
    (hX : ∀ (J : Fin 2048) (q : Fin 256) (h : t.val * 2048 + J.val < 300000), X (ix2 J q) = G (ix2 ⟨t.val * 2048 + J.val, h⟩ q)) :
    win0_6.cut (grid0.coords t) X = (win0_6.blk t).view.read (Elt F) (G : Buf (Elt F) ((c : Thread nD τ).loc main_v6)) := by
  funext y
  have h0 := (lt_extent (j := (y 0).val) (lt_of_lt_of_le (y 0).isLt (Pipeline.Clip.OkAt.extent_le (win0_6.hclip (grid0.coords t) 0)))).mp (y 0).isLt
  have h0' : t.val * 2048 + (y 0).val < 300000 := by
    have : (BitVec.ofNat 32 (grid0.coords t 0).val).toNat * 2048 + (y 0).val < 300000 := h0
    rwa [word_val] at this
  have hJ : (y 0).val < 2048 := lt_of_lt_of_le (y 0).isLt (Pipeline.Clip.OkAt.extent_le (win0_6.hclip (grid0.coords t) 0))
  have hq : (y 1).val < 256 := lt_of_lt_of_le (y 1).isLt (Pipeline.Clip.OkAt.extent_le (win0_6.hclip (grid0.coords t) 1))
  have e : win0_6.xinj (grid0.coords t) y = ix2 (⟨(y 0).val, hJ⟩ : Fin 2048) (⟨(y 1).val, hq⟩ : Fin 256) := by
    funext a
    match a with
    | ⟨0, _⟩ => rfl
    | ⟨1, _⟩ => rfl
  refine ((congrArg X e).trans (hX _ _ h0')).trans ?_
  refine congrArg G (funext fun a => Fin.ext ?_)
  refine Eq.trans ?_ (win0_6.rect_emb_val_off t _ a).symm
  match a with
  | ⟨0, _⟩ => show t.val * 2048 + (y 0).val = (BitVec.ofNat 32 (grid0.coords t 0).val).toNat * 2048 + (y 0).val; rw [word_val]
  | ⟨1, _⟩ => show (y 1).val = 0 * 256 + (y 1).val; omega

/-- The 147 output blocks cover the array. -/
theorem cover_6 (i : S300000x256.Idx) : ∃ t : Fin cfg0.N, (cfg0.win 6).flush t = true ∧ i ∈ ((cfg0.win 6).blk t).view.set := by
  have h0 : (i 0).val < 300000 := (i 0).isLt
  have h1 : (i 1).val < 256 := (i 1).isLt
  let t : Fin cfg0.N := ⟨(i 0).val / 2048, by show (i 0).val / 2048 < 147; omega⟩
  refine ⟨t, flush0_6 t, ?_⟩
  show i ∈ ((View.whole main_v6).slice (win0_6.rect t)).set
  rw [View.set_slice_whole, Rect.mem_set_unit]
  intro a
  match a with
  | ⟨0, _⟩ =>
    show (BitVec.ofNat 32 (grid0.coords t 0).val).toNat * 2048 ≤ (i 0).val
      ∧ (i 0).val < (BitVec.ofNat 32 (grid0.coords t 0).val).toNat * 2048 + (Pipeline.Clip.of (BitVec.ofNat 32 (grid0.coords t 0).val).toNat 2048 300000).extent 2048
    rw [word_val, extent_of]
    show (i 0).val / 2048 * 2048 ≤ (i 0).val ∧ (i 0).val < (i 0).val / 2048 * 2048 + if ((i 0).val / 2048 + 1) * 2048 ≤ 300000 then 2048 else 300000 - (i 0).val / 2048 * 2048
    split <;> omega
  | ⟨1, _⟩ =>
    show 0 * 256 ≤ (i 1).val ∧ (i 1).val < 0 * 256 + (Pipeline.Clip.of 0 256 256).extent 256
    rw [extent_of]
    simp only [Nat.zero_mul, Nat.zero_add, Nat.one_mul, le_refl, if_true]
    omega

end Cert.KernelIdeal.Val

end
-- ==== Proof.ValueData.lean ====
/-
  The kernel at the extended reals: what every staging buffer holds at a point inside the arrays, and the body's obligation.
-/
module

public import proofs.«01_k».proof.Proof.Edge

@[expose] public section

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

local notation "𝕄" => MT nD τ sig Unit (Elt Ideal) ℕ (UR sig nD τ) ℕ

variable (m : (ℓ : Loc nD τ sig) → Buf (Elt Ideal) ℓ) (ρ : Dev nD → PrngReg)

/-- Document `n`'s score for query `q`, from the arrays the region is entered with. -/
def scoreArr (A2 : Vec Ideal S120x300000 .i8) (A3 : Vec Ideal S5x120x300000 .i8) (A4 A5 : Vec Ideal S1x300000 .f32)
    (x : Vec Ideal S256x1024 .bf16) (A6 : Vec Ideal S1x256 .f32) : Vec Ideal S300000x256 .f32 := fun i =>
  ((A4 (ix2 0 (i 0)) + A6 (ix2 0 (i 1)) : EReal))
    + (Ideal.ofBits .f32 0x3E800000#32 * A5 (ix2 0 (i 0)))
      * ∑ k : Fin 1024, x (ix2 (i 1) k) * (((2 * cval (fun r => A2 (ix2 r (i 0))) (fun p r => A3 (ix3 p r (i 0))) k : ℤ) : ℝ) : EReal)

/-- The first scratch, the second, and the output array, on core `c`. -/
def xs (c : Dev nD) : Vec Ideal S256x1024 .bf16 := xsOf (V m c main_v1)
/-- What the second scratch holds after the first point. -/
def gs (c : Dev nD) : Vec Ideal S256x128 .f32 := gOf (V m c main_arg5)
/-- The scores, one row per document. -/
def out (c : Dev nD) : Vec Ideal S300000x256 .f32 :=
  scoreArr (V m c main_v2) (V m c main_v3) (V m c main_v4) (V m c main_v5) (xs m c) (V m c main_arg5)

/-- The invariant after the first point: the two scratches as the first point left them. -/
def held (c : Dev nD) : sProp 𝕄 :=
  iprop((owns (c : Thread nD τ) (Memref.whole cc0_scratch0) fullShare (xs m c)
    ∗ owns (c : Thread nD τ) (Memref.whole cc0_scratch1) fullShare (gs m c)) ∗ (∃ r, prngReg c r))

/-- The proof data: an input's buffer has its block where the block is inside the array, the output's has the scores. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (Pipeline.Dat.unnamed (cfg := cfg0) 1 t) (iblk m c 1 t)
    | ⟨2, _⟩ => win0_2.fill (grid0.coords t) (Pipeline.Dat.unnamed (cfg := cfg0) 2 t) (iblk m c 2 t)
    | ⟨3, _⟩ => win0_3.fill (grid0.coords t) (Pipeline.Dat.unnamed (cfg := cfg0) 3 t) (iblk m c 3 t)
    | ⟨4, _⟩ => win0_4.fill (grid0.coords t) (Pipeline.Dat.unnamed (cfg := cfg0) 4 t) (iblk m c 4 t)
    | ⟨5, _⟩ => iblk m c 5 t
    | ⟨6, _⟩ => win0_6.fill (grid0.coords t) (Pipeline.Dat.unnamed (cfg := cfg0) 6 t)
        ((win0_6.blk t).view.read (Elt Ideal) (out m c : Buf (Elt Ideal) ((c : Thread nD τ).loc main_v6)))
  Φ t := if t.val = 0 then Pipeline.ΦA spec0 c else held m c
  q _ := fullShare
  owed _ := 0

/-- The arrays of the data are those the region is entered with. -/
theorem A_eq (c : Dev nD) (w : Fin cfg0.W) : (dats m 0 c).A w = V m c (Pipeline.arrRef spec0 w) := by dsimp only [dats]

/-- The branch is taken at the first point only. -/
theorem atFirst_iff : ∀ t : Fin cfg0.N, atFirst (grid0.coords t) ↔ t.val = 0 := by decide +kernel

/-- What the body finds in the inputs' buffers: the block, filled out with anything where it overhangs. -/
theorem before_0 (c : Dev nD) (t : Fin cfg0.N) (d) : (dats m 0 c).before 0 t d = iblk m c 0 t :=
  before0_0_of m (dats m 0 c) (A_eq m c 0) (fun _ => rfl) t d
/-- The same for input 1. -/
theorem before_1 (c : Dev nD) (t : Fin cfg0.N) (d) : (dats m 0 c).before 1 t d = win0_1.fill (grid0.coords t) d (iblk m c 1 t) := by
  unfold Dat.before; rw [if_pos (fetch0_1 t)]; rfl
/-- The same for input 2. -/
theorem before_2 (c : Dev nD) (t : Fin cfg0.N) (d) : (dats m 0 c).before 2 t d = win0_2.fill (grid0.coords t) d (iblk m c 2 t) := by
  unfold Dat.before; rw [if_pos (fetch0_2 t)]; rfl
/-- The same for input 3. -/
theorem before_3 (c : Dev nD) (t : Fin cfg0.N) (d) : (dats m 0 c).before 3 t d = win0_3.fill (grid0.coords t) d (iblk m c 3 t) := by
  unfold Dat.before; rw [if_pos (fetch0_3 t)]; rfl
/-- The same for input 4. -/
theorem before_4 (c : Dev nD) (t : Fin cfg0.N) (d) : (dats m 0 c).before 4 t d = win0_4.fill (grid0.coords t) d (iblk m c 4 t) := by
  unfold Dat.before; rw [if_pos (fetch0_4 t)]; rfl
/-- The same for input 5. -/
theorem before_5 (c : Dev nD) (t : Fin cfg0.N) (d) : (dats m 0 c).before 5 t d = iblk m c 5 t :=
  before0_5_of m (dats m 0 c) (A_eq m c 5) (fun _ => rfl) t d

/-- What the body leaves in the output's buffer is, on the rows inside the array, the scores: a row's score reads the
    inputs' buffers at that row only. -/
theorem cut_out (c : Dev nD) (t : Fin cfg0.N) (d1 d2 d3 d4) :
    win0_6.cut (grid0.coords t) (View.canon (pieces (F := Ideal) (win0_1.fill (grid0.coords t) d1 (iblk m c 1 t))
        (win0_2.fill (grid0.coords t) d2 (iblk m c 2 t)) (win0_3.fill (grid0.coords t) d3 (iblk m c 3 t))
        (win0_4.fill (grid0.coords t) d4 (iblk m c 4 t)) (xs m c) (gs m c)) : Vec Ideal S2048x256 .f32)
      = (win0_6.blk t).view.read (Elt Ideal) (out m c : Buf (Elt Ideal) ((c : Thread nD τ).loc main_v6)) := by
  refine cut_6 t (out m c) _ fun J q h => ?_
  rw [canon_pieces]
  unfold scoreBlk
  simp only [fill_1 m c t _ _ J h, fill_2 m c t _ _ _ J h, fill_3 m c t _ J h, fill_4 m c t _ J h]
  rfl

/-- What the body leaves at a point, `X2 … X5` the inputs' buffers of the overhanging blocks. -/
abbrev left (c : Dev nD) (t : Fin cfg0.N) (X2 : Vec Ideal S120x2048 .i8) (X3 : Vec Ideal S5x120x2048 .i8) (X4 X5 : Vec Ideal S1x2048 .f32) : sProp 𝕄 :=
  bodyPost c (st0_0 t) (st0_1 t) (st0_2 t) (st0_3 t) (st0_4 t) (st0_5 t) (st0_6 t) (Memref.whole cc0_scratch0) (Memref.whole cc0_scratch1)
    (iblk m c 0 t) X2 X3 X4 X5 (iblk m c 5 t) (xs m c) (gs m c)

/-- That is what the obligation asks for: each buffer stated on its part inside the array, the scratches kept. -/
theorem close (c : Dev nD) (t : Fin cfg0.N) (d1 d2 d3 d4) :
    iprop(left m c t (win0_1.fill (grid0.coords t) d1 (iblk m c 1 t)) (win0_2.fill (grid0.coords t) d2 (iblk m c 2 t))
          (win0_3.fill (grid0.coords t) d3 (iblk m c 3 t)) (win0_4.fill (grid0.coords t) d4 (iblk m c 4 t))
        ∗ (∃ r, prngReg c r) ∗ (dats m 0 c).owesAt () t.castSucc)
      ⊢ iprop((dats m 0 c).Φ t.succ ∗ (dats m 0 c).owesAt () t.succ
        ∗ owns (c : Thread nD τ) (st0_0 t) fullShare ((dats m 0 c).after 0 t)
        ∗ (∃ d, owns (c : Thread nD τ) (st0_1 t) fullShare (win0_1.fill (grid0.coords t) d (win0_1.cut (grid0.coords t) ((dats m 0 c).after 1 t))))
        ∗ (∃ d, owns (c : Thread nD τ) (st0_2 t) fullShare (win0_2.fill (grid0.coords t) d (win0_2.cut (grid0.coords t) ((dats m 0 c).after 2 t))))
        ∗ (∃ d, owns (c : Thread nD τ) (st0_3 t) fullShare (win0_3.fill (grid0.coords t) d (win0_3.cut (grid0.coords t) ((dats m 0 c).after 3 t))))
        ∗ (∃ d, owns (c : Thread nD τ) (st0_4 t) fullShare (win0_4.fill (grid0.coords t) d (win0_4.cut (grid0.coords t) ((dats m 0 c).after 4 t))))
        ∗ owns (c : Thread nD τ) (st0_5 t) fullShare ((dats m 0 c).after 5 t)
        ∗ (∃ d, owns (c : Thread nD τ) (st0_6 t) fullShare (win0_6.fill (grid0.coords t) d (win0_6.cut (grid0.coords t) ((dats m 0 c).after 6 t))))) := by
  have e1 : win0_1.cut (grid0.coords t) ((dats m 0 c).after 1 t) = iblk m c 1 t := win0_1.cut_fill _ _ _
  have e2 : win0_2.cut (grid0.coords t) ((dats m 0 c).after 2 t) = iblk m c 2 t := win0_2.cut_fill _ _ _
  have e3 : win0_3.cut (grid0.coords t) ((dats m 0 c).after 3 t) = iblk m c 3 t := win0_3.cut_fill _ _ _
  have e4 : win0_4.cut (grid0.coords t) ((dats m 0 c).after 4 t) = iblk m c 4 t := win0_4.cut_fill _ _ _
  have e6 : win0_6.cut (grid0.coords t) ((dats m 0 c).after 6 t) = (win0_6.blk t).view.read (Elt Ideal) (out m c : Buf (Elt Ideal) ((c : Thread nD τ).loc main_v6)) :=
    win0_6.cut_fill _ _ _
  have eΦ : (dats m 0 c).Φ t.succ = held m c :=
    (if_neg (Nat.succ_ne_zero t.val) : (if t.val + 1 = 0 then Pipeline.ΦA spec0 c else held m c) = held m c)
  rw [e1, e2, e3, e4, e6, eΦ]
  unfold left bodyPost held
  iintro ⟨⟨H1, H2, H3, H4, H5, H6, H7, H8, H9⟩, Hg, HO⟩
  isplitl [H8 H9 Hg]
  · isplitl [H8 H9]
    · isplitl [H8]; · iexact H8
      iexact H9
    iexact Hg
  isplitl [HO]; · iexact HO
  isplitl [H1]; · iexact H1
  isplitl [H2]; · iexists d1; iexact H2
  isplitl [H3]; · iexists d2; iexact H3
  isplitl [H4]; · iexists d3; iexact H4
  isplitl [H5]; · iexists d4; iexact H5
  isplitl [H6]; · iexact H6
  iexists _
  rw [← cut_out m c t d1 d2 d3 d4, win0_6.fill_cut]
  iexact H7

/-- The library's body obligation: at the first point the scratches arrive at any contents and leave written, at a later
    one they arrive and leave as the first left them. -/
theorem body_obligation (c : Dev nD) : BodyObligationLoose (dats m 0 c) (defs₀ (F := Ideal)) Variants.none () Set.univ := fun t => by
  rw [bigSep_W0, bigSep_W0, defs₀_row]
  simp only
  have hx : xsOf (F := Ideal) (iblk m c 0 t) = xs m c := congrArg xsOf (blk_0 m c t)
  have hg : gOf (F := Ideal) (iblk m c 5 t) = gs m c := congrArg gOf (blk_5 m c t)
  by_cases h : t.val = 0
  · rw [show (dats m 0 c).Φ t.castSucc = Pipeline.ΦA spec0 c from if_pos h]
    unfold Pipeline.ΦA
    rw [scopedRest0_eq]
    iintro ⟨⟨⟨⟨%f8, H8⟩, ⟨%f9, H9⟩⟩, Hg⟩, HO, ⟨%d0, H1⟩, ⟨%d1, H2⟩, ⟨%d2, H3⟩, ⟨%d3, H4⟩, ⟨%d4, H5⟩, ⟨%d5, H6⟩, ⟨%d6, H7⟩⟩
    rw [before_0 m c t d0, before_1 m c t d1, before_2 m c t d2, before_3 m c t d3, before_4 m c t d4, before_5 m c t d5]
    iapply (bodyFirst c (grid0.coords t) (st0_0 t) _ (st0_1 t) _ (st0_2 t) _ (st0_3 t) _ (st0_4 t) _ (st0_5 t) _ (st0_6 t) _
      (Memref.whole cc0_scratch0) (Memref.isWhole_whole _) (Memref.whole cc0_scratch1) (Memref.isWhole_whole _)
      (iblk m c 0 t) (win0_1.fill (grid0.coords t) d1 (iblk m c 1 t)) (win0_2.fill (grid0.coords t) d2 (iblk m c 2 t))
      (win0_3.fill (grid0.coords t) d3 (iblk m c 3 t)) (win0_4.fill (grid0.coords t) d4 (iblk m c 4 t)) (iblk m c 5 t)
      ((atFirst_iff t).mpr h) _)
    rw [hx, hg]
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists f8; rw [owns_whole]; iexact H8
    isplitl [H9]; · iexists f9; rw [owns_whole]; iexact H9
    iintro HB
    iapply (close m c t d1 d2 d3 d4)
    isplitl [HB]; · iexact HB
    isplitl [Hg]; · iexact Hg
    iexact HO
  · rw [show (dats m 0 c).Φ t.castSucc = held m c from if_neg h]
    unfold held
    iintro ⟨⟨⟨H8, H9⟩, Hg⟩, HO, ⟨%d0, H1⟩, ⟨%d1, H2⟩, ⟨%d2, H3⟩, ⟨%d3, H4⟩, ⟨%d4, H5⟩, ⟨%d5, H6⟩, ⟨%d6, H7⟩⟩
    rw [before_0 m c t d0, before_1 m c t d1, before_2 m c t d2, before_3 m c t d3, before_4 m c t d4, before_5 m c t d5]
    iapply (bodyLater c (grid0.coords t) (st0_0 t) _ (st0_1 t) _ (st0_2 t) _ (st0_3 t) _ (st0_4 t) _ (st0_5 t) _ (st0_6 t) _
      (Memref.whole cc0_scratch0) (Memref.isWhole_whole _) (Memref.whole cc0_scratch1) (Memref.isWhole_whole _)
      (iblk m c 0 t) (win0_1.fill (grid0.coords t) d1 (iblk m c 1 t)) (win0_2.fill (grid0.coords t) d2 (iblk m c 2 t))
      (win0_3.fill (grid0.coords t) d3 (iblk m c 3 t)) (win0_4.fill (grid0.coords t) d4 (iblk m c 4 t)) (iblk m c 5 t)
      (xs m c) (gs m c) (fun hc => h ((atFirst_iff t).mp hc)) _)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro HB
    iapply (close m c t d1 d2 d3 d4)
    isplitl [HB]; · iexact HB
    isplitl [Hg]; · iexact Hg
    iexact HO

end Cert.KernelIdeal.Val

end
-- ==== Proof.ValueRun.lean ====
/-
  The kernel's run at the extended reals: the arrays the region is entered with, the array it leaves, and the result.
-/
module

public import proofs.«01_k».proof.Proof.ValueData
public import Idealize.ShloMosaic.Lib.Claim

@[expose] public section

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

local notation "𝕄" => MT nD τ sig Unit (Elt Ideal) ℕ (UR sig nD τ) ℕ

variable (m : (ℓ : Loc nD τ sig) → Buf (Elt Ideal) ℓ) (ρ : Dev nD → PrngReg) (c : Dev nD)

/-- Argument `b` as launched on core `c`. -/
abbrev arg (b : Ref sig .tc) : Buf (Elt Ideal) ((c : Thread nD τ).loc b) := m ((c : Thread nD τ).loc b)

/-! ## The arrays the region is entered with -/

/-- The activations, flattened and turned over. -/
theorem V_v1 : (V m c main_v1 : Vec Ideal S960x256 .bf16)
    = transpose S960x256 [1, 0] (shapeCast S256x960 (arg m c main_arg0 : Vec Ideal S1x256x960 .bf16) shapeCasts_S1x256x960_S256x960) transposes_S256x960_S960x256_1_0 := by
  unfold_abbrev_sides
  simp only [List.flatten_cons, List.flatten_nil, List.append_nil, hostOps0]
  after_results
  rfl

/-- The sign plane turned over. -/
theorem V_v2 : (V m c main_v2 : Vec Ideal S120x300000 .i8)
    = transpose S120x300000 [1, 0] (arg m c main_arg1 : Vec Ideal S300000x120 .i8) transposes_S300000x120_S120x300000_1_0 := by
  unfold_abbrev_sides
  simp only [List.flatten_cons, List.flatten_nil, List.append_nil, hostOps0]
  after_results

/-- The exponent planes, each turned over. -/
theorem V_v3 : (V m c main_v3 : Vec Ideal S5x120x300000 .i8)
    = transpose S5x120x300000 [0, 2, 1] (arg m c main_arg2 : Vec Ideal S5x300000x120 .i8) transposes_S5x300000x120_S5x120x300000_0_2_1 := by
  unfold_abbrev_sides
  simp only [List.flatten_cons, List.flatten_nil, List.append_nil, hostOps0]
  after_results

/-- The documents' addends as one row. -/
theorem V_v4 : (V m c main_v4 : Vec Ideal S1x300000 .f32)
    = shapeCast S1x300000 (arg m c main_arg3 : Vec Ideal S300000 .f32) shapeCasts_S300000_S1x300000 := by
  unfold_abbrev_sides
  simp only [List.flatten_cons, List.flatten_nil, List.append_nil, hostOps0]
  after_results
  rfl

/-- The documents' factors as one row. -/
theorem V_v5 : (V m c main_v5 : Vec Ideal S1x300000 .f32)
    = shapeCast S1x300000 (arg m c main_arg4 : Vec Ideal S300000 .f32) shapeCasts_S300000_S1x300000 := by
  unfold_abbrev_sides
  simp only [List.flatten_cons, List.flatten_nil, List.append_nil, hostOps0]
  after_results
  rfl

/-! ## The array the region leaves, and the lines after it -/

/-- The output array ends at the scores. -/
theorem final_out : (dats m 0 c).arrAt 6 cfg0.N = (out m c : Buf (Elt Ideal) ((c : Thread nD τ).loc main_v6)) :=
  (dats m 0 c).arrAt_eq_of_cover 6 (out m c) (fun t _ => win0_6.cut_fill _ _ _) cover_6

/-- The result: the scores turned over. -/
def result : Vec Ideal S1x256x300000 .f32 :=
  shapeCast S1x256x300000 (transpose S256x300000 [1, 0] (out m c) transposes_S300000x256_S256x300000_1_0) shapeCasts_S256x300000_S1x256x300000

/-- The lines after the region leave the result. -/
theorem W_v8 : Pipeline.afterTail₀ cfgs (dats m) 0 (V0 m) [hostOps1] c main_v8 = (result m c : Buf (Elt Ideal) ((c : Thread nD τ).loc main_v8)) := by
  unfold Pipeline.afterTail₀
  have e : Pipeline.withArrays (cfgs 0).spec c (V0 m c) (fun w => (dats m 0 c).arrAt w (cfgs 0).N) (Proc.devRef .tc main_v6) = out m c :=
    (Pipeline.withArrays_arr (cfgs 0).spec launch0.win.arr_inj c (V0 m c) _ 6).trans (final_out m c)
  generalize Pipeline.withArrays (cfgs 0).spec c (V0 m c) (fun w => (dats m 0 c).arrAt w (cfgs 0).N) = X at e
  simp only [hostOps1, List.flatten_cons, List.flatten_nil, List.append_nil]
  after_results
  rw [e]
  rfl

/-! ## The launch -/

/-- The region is entered with the scratches at anything. -/
theorem Φ_in : (Pipeline.ΦA spec0 c : sProp 𝕄) ⊢ (dats m 0 c).Φ 0 := by
  rw [show (dats m 0 c).Φ 0 = Pipeline.ΦA spec0 c from (if_pos rfl : (if 0 = 0 then Pipeline.ΦA spec0 c else held m c) = _)]

/-- The region gives its scratches back. -/
theorem Φ_out : (dats m 0 c).Φ (Fin.last cfg0.N) ⊢ (Pipeline.ΦA spec0 c : sProp 𝕄) := by
  rw [show (dats m 0 c).Φ (Fin.last cfg0.N) = held m c from
    (if_neg (by decide) : (if 147 = 0 then Pipeline.ΦA spec0 c else held m c) = _)]
  unfold held Pipeline.ΦA
  rw [scopedRest0_eq]
  iintro ⟨⟨H8, H9⟩, Hg⟩
  isplitl [H8 H9]
  · isplitl [H8]; · iexists _; rw [← owns_whole]; iexact H8
    iexists _; rw [← owns_whole]; iexact H9
  iexact Hg

-- the launch theorem's implicit arguments are found by unifying its conclusion with this statement, which unifies only when
-- unification may unfold plain definitions in a metavariable's type
set_option backward.isDefEq.respectTransparency.types false in
/-- The region and the lines after it. -/
theorem runs : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_in m) (hout := Φ_out m)
    (Q' := fun r => Pipeline.FramePost cfgs (dats m) 0 (Pipeline.afterTail₀ cfgs (dats m) 0 (V0 m) [hostOps1]) r ∧ r.2.sem = fun _ => 0)
    (hQ' := fun _ h => h)

/-- Every weakly fair execution ends with the result at `result` and the arguments as launched. -/
theorem value : θ_run defs (onTc (τ := τ) (main (F := Ideal))) (s₀ m ρ) (fun r => ∀ c : Dev nD,
      r.2.mem ((c.tc : Thread nD τ).loc main_v8) = (result m c : Buf (Elt Ideal) ((c : Thread nD τ).loc main_v8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (runs m ρ)
  have key : ∀ b : Ref sig .tc, b ∈ Pipeline.restRefs sig spec0 →
      r.2.mem ((c.tc : Thread nD τ).loc b) = Pipeline.afterTail₀ cfgs (dats m) 0 (V0 m) [hostOps1] c b := (h.1 c).2
  refine ⟨(key _ ?_).trans (W_v8 m c), (key _ ?_).trans (W_main_arg0 m (dats m) c), (key _ ?_).trans (W_main_arg1 m (dats m) c),
    (key _ ?_).trans (W_main_arg2 m (dats m) c), (key _ ?_).trans (W_main_arg3 m (dats m) c), (key _ ?_).trans (W_main_arg4 m (dats m) c),
    ((h.1 c).1 5).trans (((dats m 0 c).arrAt_in 5 rfl _).trans ((A_eq m c 5).trans (V_main_arg5 m c)))⟩
  all_goals exact Pipeline.mem_restRefs_of _ (by decide) (by decide)

end Cert.KernelIdeal.Val

end
-- ==== Proof.RefVal.lean ====
/-
  The reference's result at an index.
-/
module

public import proofs.«01_k».proof.Proof.Bits
public import proofs.«01_k».proof.Proof.Gen.ReferenceIdeal
public import proofs.«01_k».proof.Proof.Gen.ReferenceIdeal.Run
public import Idealize.ShloMosaic.Lib.Pointwise

@[expose] public section

noncomputable section

namespace Cert.ReferenceIdeal.Val

open Cert.ReferenceIdeal Cert.ReferenceIdeal.Gen Cert.ReferenceIdeal.Value Cert.Bits
open Idealize.ShloMosaic Idealize.ShloMosaic.TcCoe

variable {F : FTy → Type} [FloatOps F]

/-- Bit `j` of every byte of a plane, as 32-bit words. -/
def bits (p : IVec S300000x120 8) : IVec S300000x8x120 32 :=
  andi (Host.shrsi (broadcastInDim S300000x8x120 ![0, 1, 2] bcast_S300000x1x120_S300000x8x120_0_1_2
      (broadcastInDim S300000x1x120 ![0, 2] bcast_S300000x120_S300000x1x120_0_2 (extui 32 p natLt_8_32)))
    (broadcastInDim S300000x8x120 ![0, 1, 2] bcast_S1x8x1_S300000x8x120_0_1_2
      (broadcastInDim S1x8x1 ![1, 2] bcast_S8x1_S1x8x1_1_2 (broadcastInDim S8x1 ![0] bcast_S8_S8x1_0 (iotaInDim S8 32 0)))))
    (broadcastInDim S300000x8x120 ![] bcast_S_S300000x8x120 (constantI S_ 32 1#32))

/-- A word everywhere. -/
def cst (w : BitVec 32) : IVec S300000x8x120 32 := broadcastInDim S300000x8x120 ![] bcast_S_S300000x8x120 (constantI S_ 32 w)

/-- The codes' numbers, from the six planes. -/
def nums (s : IVec S300000x120 8) (e0 e1 e2 e3 e4 : IVec S300000x120 8) : IVec S300000x8x120 32 :=
  subi (muli (cst 2#32) (addi (addi (addi (addi (addi (Host.shli (bits s) (cst 5#32)) (Host.shli (bits e0) (cst 0#32)))
    (Host.shli (bits e1) (cst 1#32))) (Host.shli (bits e2) (cst 2#32))) (Host.shli (bits e3) (cst 3#32))) (Host.shli (bits e4) (cst 4#32)))) (cst 63#32)

/-- Exponent plane 0. -/
def plane0 (a : IVec S5x300000x120 8) : IVec S300000x120 8 :=
  shapeCast _ (extractStridedSlice S1x300000x120 ![0, 0, 0] a slices_S5x300000x120_S1x300000x120_0_0_0) shapeCasts_S1x300000x120_S300000x120
/-- Exponent plane 1. -/
def plane1 (a : IVec S5x300000x120 8) : IVec S300000x120 8 :=
  shapeCast _ (extractStridedSlice S1x300000x120 ![1, 0, 0] a slices_S5x300000x120_S1x300000x120_1_0_0) shapeCasts_S1x300000x120_S300000x120
/-- Exponent plane 2. -/
def plane2 (a : IVec S5x300000x120 8) : IVec S300000x120 8 :=
  shapeCast _ (extractStridedSlice S1x300000x120 ![2, 0, 0] a slices_S5x300000x120_S1x300000x120_2_0_0) shapeCasts_S1x300000x120_S300000x120
/-- Exponent plane 3. -/
def plane3 (a : IVec S5x300000x120 8) : IVec S300000x120 8 :=
  shapeCast _ (extractStridedSlice S1x300000x120 ![3, 0, 0] a slices_S5x300000x120_S1x300000x120_3_0_0) shapeCasts_S1x300000x120_S300000x120
/-- Exponent plane 4. -/
def plane4 (a : IVec S5x300000x120 8) : IVec S300000x120 8 :=
  shapeCast _ (extractStridedSlice S1x300000x120 ![4, 0, 0] a slices_S5x300000x120_S1x300000x120_4_0_0) shapeCasts_S1x300000x120_S300000x120

/-- The scores, from the codes' numbers. -/
def scores (a0 : Vec F S1x256x960 .bf16) (w : IVec S300000x8x120 32) (a3 a4 : Vec F S300000 .f32) (a5 : Vec F S1x256 .f32) : Vec F S1x256x300000 .f32 :=
  addf (addf (broadcastInDim S1x256x300000 ![0, 1, 2] bcast_S1x1x300000_S1x256x300000_0_1_2 (broadcastInDim S1x1x300000 ![2] bcast_S300000_S1x1x300000_2 a3))
      (broadcastInDim S1x256x300000 ![0, 1, 2] bcast_S1x256x1_S1x256x300000_0_1_2 (broadcastInDim S1x256x1 ![0, 1] bcast_S1x256_S1x256x1_0_1 a5)))
    (mulf (broadcastInDim S1x256x300000 ![0, 1, 2] bcast_S1x1x300000_S1x256x300000_0_1_2 (broadcastInDim S1x1x300000 ![2] bcast_S300000_S1x1x300000_2
        (mulf (broadcastInDim S300000 ![] bcast_S_S300000 (constant S_ .f32 0x3F000000#32)) a4)))
      (shapeCast _ (Host.dotGeneral dot_S256x960_S300000x960_S256x300000_1_1_0_0_n_n none (shapeCast _ a0 shapeCasts_S1x256x960_S256x960)
        (shapeCast _ (sitofp .bf16 w) shapeCasts_S300000x8x120_S300000x960)) shapeCasts_S256x300000_S1x256x300000))

/-- The reference's result is the scores of the numbers of its planes. -/
theorem res_eq (m : (ℓ : Loc nD τ sig) → Buf (Elt F) ℓ) (c : Dev nD) : res_main_v96 m c
    = scores (m ((c.tc : Thread nD τ).loc main_arg0)) (nums (m ((c.tc : Thread nD τ).loc main_arg1)) (plane0 (m ((c.tc : Thread nD τ).loc main_arg2)))
      (plane1 (m ((c.tc : Thread nD τ).loc main_arg2))) (plane2 (m ((c.tc : Thread nD τ).loc main_arg2))) (plane3 (m ((c.tc : Thread nD τ).loc main_arg2)))
      (plane4 (m ((c.tc : Thread nD τ).loc main_arg2)))) (m ((c.tc : Thread nD τ).loc main_arg3)) (m ((c.tc : Thread nD τ).loc main_arg4))
      (m ((c.tc : Thread nD τ).loc main_arg5)) := rfl

/-- A bit of a plane. -/
theorem bits_apply (p : IVec S300000x120 8) (n : Fin 300000) (j : Fin 8) (r : Fin 120) :
    bits p (ix3 n j r) = if (p (ix2 n r)).getLsbD j.val then 1#32 else 0#32 := by
  refine Eq.trans ?_ (bit_word (p (ix2 n r)) j)
  pointwise [bits]

/-- A code's number. -/
theorem nums_apply (s e0 e1 e2 e3 e4 : IVec S300000x120 8) (n : Fin 300000) (j : Fin 8) (r : Fin 120) :
    (nums s e0 e1 e2 e3 e4 (ix3 n j r)).toInt = 2 * uval ((s (ix2 n r)).getLsbD j.val)
      (fun p => ((![e0, e1, e2, e3, e4] : Fin 5 → IVec S300000x120 8) p (ix2 n r)).getLsbD j.val) - 63 := by
  refine Eq.trans ?_ (word_toInt ((s (ix2 n r)).getLsbD j.val)
      (fun p => ((![e0, e1, e2, e3, e4] : Fin 5 → IVec S300000x120 8) p (ix2 n r)).getLsbD j.val))
  congr 1
  unfold nums
  simp only [cst]
  pointwise [bits_apply]
  rfl

/-- A score. -/
theorem scores_apply (a0 : Vec Ideal S1x256x960 .bf16) (w : IVec S300000x8x120 32) (a3 a4 : Vec Ideal S300000 .f32) (a5 : Vec Ideal S1x256 .f32)
    (q : Fin 256) (n : Fin 300000) : scores a0 w a3 a4 a5 (ix3 0 q n)
      = ((a3 (ix1 n) + a5 (ix2 0 q)) + (Ideal.ofBits .f32 0x3F000000#32 * a4 (ix1 n))
        * ∑ k : Fin 960, a0 (ix3 0 q k) * ((((w (ix3 n ⟨k.val / 120, by omega⟩ ⟨k.val % 120, by omega⟩)).toInt : ℝ)) : EReal) : EReal) := by
  pointwise [scores]
  rfl

/-- Exponent plane 0 at an index. -/
theorem plane0_apply (a : IVec S5x300000x120 8) (n : Fin 300000) (r : Fin 120) : plane0 a (ix2 n r) = a (ix3 0 n r) := by pointwise [plane0]
/-- Exponent plane 1 at an index. -/
theorem plane1_apply (a : IVec S5x300000x120 8) (n : Fin 300000) (r : Fin 120) : plane1 a (ix2 n r) = a (ix3 1 n r) := by pointwise [plane1]
/-- Exponent plane 2 at an index. -/
theorem plane2_apply (a : IVec S5x300000x120 8) (n : Fin 300000) (r : Fin 120) : plane2 a (ix2 n r) = a (ix3 2 n r) := by pointwise [plane2]
/-- Exponent plane 3 at an index. -/
theorem plane3_apply (a : IVec S5x300000x120 8) (n : Fin 300000) (r : Fin 120) : plane3 a (ix2 n r) = a (ix3 3 n r) := by pointwise [plane3]
/-- Exponent plane 4 at an index. -/
theorem plane4_apply (a : IVec S5x300000x120 8) (n : Fin 300000) (r : Fin 120) : plane4 a (ix2 n r) = a (ix3 4 n r) := by pointwise [plane4]

/-- The number of feature `k`'s code in document `n`: bit `k / 120` of byte `k % 120` of each plane. -/
def num (a1 : IVec S300000x120 8) (a2 : IVec S5x300000x120 8) (n : Fin 300000) (k : Fin 960) : ℤ :=
  2 * uval ((a1 (ix2 n (⟨k.val % 120, Nat.mod_lt _ (by norm_num)⟩ : Fin 120))).getLsbD (k.val / 120))
    (fun p => (a2 (ix3 p n (⟨k.val % 120, Nat.mod_lt _ (by norm_num)⟩ : Fin 120))).getLsbD (k.val / 120)) - 63

/-- The reference's result at a query and a document, in the arguments. -/
theorem res_apply (m : (ℓ : Loc nD τ sig) → Buf (Elt Ideal) ℓ) (c : Dev nD) (q : Fin 256) (n : Fin 300000)
    (a0 : Vec Ideal S1x256x960 .bf16) (a1 : IVec S300000x120 8) (a2 : IVec S5x300000x120 8) (a3 a4 : Vec Ideal S300000 .f32) (a5 : Vec Ideal S1x256 .f32)
    (h0 : m ((c.tc : Thread nD τ).loc main_arg0) = a0) (h1 : m ((c.tc : Thread nD τ).loc main_arg1) = a1) (h2 : m ((c.tc : Thread nD τ).loc main_arg2) = a2)
    (h3 : m ((c.tc : Thread nD τ).loc main_arg3) = a3) (h4 : m ((c.tc : Thread nD τ).loc main_arg4) = a4) (h5 : m ((c.tc : Thread nD τ).loc main_arg5) = a5) :
    (res_main_v96 m c : Vec Ideal S1x256x300000 .f32) (ix3 0 q n)
      = ((a3 (ix1 n) + a5 (ix2 0 q)) + (Ideal.ofBits .f32 0x3F000000#32 * a4 (ix1 n)) * ∑ k : Fin 960, a0 (ix3 0 q k) * (((num a1 a2 n k : ℤ) : ℝ) : EReal) : EReal) := by
  rw [res_eq, h0, h1, h2, h3, h4, h5]
  refine (scores_apply _ _ _ _ _ q n).trans ?_
  congr 2
  refine Finset.sum_congr rfl fun k _ => ?_
  rw [nums_apply]
  unfold num
  congr 5
  refine congrArg (uval _) ?_
  funext p
  congr 1
  fin_cases p
  · exact plane0_apply _ _ _
  · exact plane1_apply _ _ _
  · exact plane2_apply _ _ _
  · exact plane3_apply _ _ _
  · exact plane4_apply _ _ _

end Cert.ReferenceIdeal.Val

end
-- ==== Proof.Equal.lean ====
/-
  The kernel's result and the reference's are the same array.
-/
module

public import proofs.«01_k».proof.Proof.ValueRun
public import proofs.«01_k».proof.Proof.RefVal
public import Idealize.ShloMosaic.Lib.IdealHost

@[expose] public section

noncomputable section

namespace Cert.KernelIdeal.Val

open Cert.KernelIdeal Cert.KernelIdeal.Gen Cert.KernelIdeal.Hand Cert.Bits
open Idealize.ShloMosaic Idealize.ShloMosaic.TcCoe
open Cert.ReferenceIdeal.Val (num)

/-! ## Arithmetic -/

/-- The kernel's constant is a quarter. -/
theorem quarter : (Ideal.ofBits .f32 0x3E800000#32 : EReal) = ((1 / 4 : ℝ) : EReal) := by
  simp [Ideal.ofBits, Ideal.ieee, -EReal.coe_mul]; norm_num

/-- The reference's constant is a half. -/
theorem half : (Ideal.ofBits .f32 0x3F000000#32 : EReal) = ((1 / 2 : ℝ) : EReal) := by
  simp [Ideal.ofBits, Ideal.ieee, -EReal.coe_mul]; norm_num

/-- Twice a sum of extended reals is the sum of the doubles, whatever infinities are in it. -/
theorem two_mul_sum {ι : Type} (s : Finset ι) (f : ι → EReal) : (2 : EReal) * ∑ i ∈ s, f i = ∑ i ∈ s, 2 * f i := by
  classical
  have h2 : (2 : EReal) ≠ ⊤ := by exact_mod_cast EReal.coe_ne_top 2
  induction s using Finset.induction_on with
  | empty => simp
  | insert a s ha ih =>
    rw [Finset.sum_insert ha, Finset.sum_insert ha, ← ih]
    exact EReal.left_distrib_of_nonneg_of_ne_top (by norm_num) h2 _ _

/-- The factor 2 of the kernel's codes against its quarter: the reference's half. -/
theorem scale (r d : EReal) :
    (Ideal.ofBits .f32 0x3E800000#32 * r) * (2 * d) = (Ideal.ofBits .f32 0x3F000000#32 * r) * d := by
  have h : (Ideal.ofBits .f32 0x3F000000#32 : EReal) = Ideal.ofBits .f32 0x3E800000#32 * 2 := by
    rw [quarter, half, show (2 : EReal) = ((2 : ℝ) : EReal) from rfl, ← EReal.coe_mul]
    norm_num
  rw [h, mul_assoc, mul_assoc (Ideal.ofBits .f32 0x3E800000#32 : EReal) 2 r, mul_comm (2 : EReal) r, mul_assoc, mul_assoc]

/-- Doubling before or after reading an integer as an extended real. -/
theorem coe_double (a : ℤ) : (((2 * a : ℤ) : ℝ) : EReal) = 2 * (((a : ℤ) : ℝ) : EReal) := by
  rw [Int.cast_mul, EReal.coe_mul]; rfl

/-- A sum over eight groups of 128, zero in the last eight of each, is the sum over eight groups of 120. -/
theorem sum_groups (f : Fin 1024 → EReal) (h : Fin 960 → EReal)
    (h0 : ∀ (j : Fin 8) (r : Fin 120), f ⟨j.val * 128 + r.val, by omega⟩ = h ⟨j.val * 120 + r.val, by omega⟩)
    (h1 : ∀ (j : Fin 8) (r : Fin 8), f ⟨j.val * 128 + (120 + r.val), by omega⟩ = 0) : ∑ k, f k = ∑ k, h k := by
  rw [Fin.sum_univ_tiles 8 128 rfl f, Fin.sum_univ_tiles 8 120 rfl h]
  refine Finset.sum_congr rfl fun j _ => ?_
  rw [Fin.sum_univ_two_halves 120 8 rfl]
  rw [Finset.sum_eq_zero (s := (Finset.univ : Finset (Fin 8))) (fun r _ => h1 j r), add_zero]
  exact Finset.sum_congr rfl fun r _ => h0 j r

/-! ## The operands of the dot product -/

variable (m : (ℓ : Loc nD τ sig) → Buf (Elt Ideal) ℓ) (c : Dev nD)
  (a0 : Vec Ideal S1x256x960 .bf16) (a1 : IVec S300000x120 8) (a2 : IVec S5x300000x120 8) (a3 a4 : Vec Ideal S300000 .f32) (a5 : Vec Ideal S1x256 .f32)

/-- The queries, flattened and turned over. -/
theorem turned (a : Vec Ideal S1x256x960 .bf16) (h : S1x256x960.ShapeCasts S256x960) (h' : S256x960.Transposes [1, 0] S960x256) (k : Fin 960) (q : Fin 256) :
    transpose S960x256 [1, 0] (shapeCast S256x960 a h) h' (ix2 k q) = a (ix3 0 q k) := by
  pointwise

/-- A vector laid out as one row. -/
theorem row_apply (a : Vec Ideal S300000 .f32) (h : S300000.ShapeCasts S1x300000) (n : Fin 300000) : shapeCast S1x300000 a h (ix2 0 n) = a (ix1 n) := by
  pointwise

/-- The activations the region is entered with, at an index. -/
theorem v1_apply (h : arg m c main_arg0 = a0) (k : Fin 960) (q : Fin 256) : (V m c main_v1 : Vec Ideal S960x256 .bf16) (ix2 k q) = a0 (ix3 0 q k) := by
  rw [V_v1, h]; exact turned a0 _ _ k q

/-- The sign plane, at an index. -/
theorem v2_apply (h : arg m c main_arg1 = a1) (r : Fin 120) (n : Fin 300000) : (V m c main_v2 : Vec Ideal S120x300000 .i8) (ix2 r n) = a1 (ix2 n r) := by
  rw [V_v2, h]; pointwise

/-- The exponent planes, at an index. -/
theorem v3_apply (h : arg m c main_arg2 = a2) (p : Fin 5) (r : Fin 120) (n : Fin 300000) :
    (V m c main_v3 : Vec Ideal S5x120x300000 .i8) (ix3 p r n) = a2 (ix3 p n r) := by
  rw [V_v3, h]; pointwise

/-- The documents' addends, at an index. -/
theorem v4_apply (h : arg m c main_arg3 = a3) (n : Fin 300000) : (V m c main_v4 : Vec Ideal S1x300000 .f32) (ix2 0 n) = a3 (ix1 n) := by
  rw [V_v4, h]; exact row_apply a3 _ n

/-- The documents' factors, at an index. -/
theorem v5_apply (h : arg m c main_arg4 = a4) (n : Fin 300000) : (V m c main_v5 : Vec Ideal S1x300000 .f32) (ix2 0 n) = a4 (ix1 n) := by
  rw [V_v5, h]; exact row_apply a4 _ n

/-- The laid-out activations at a feature, -/
theorem xs_feature (h : arg m c main_arg0 = a0) (q : Fin 256) (j : Fin 8) (r : Fin 120) :
    xs m c (ix2 q (⟨j.val * 128 + r.val, by omega⟩ : Fin 1024)) = a0 (ix3 0 q (⟨j.val * 120 + r.val, by omega⟩ : Fin 960)) := by
  refine (dif_pos (show (j.val * 128 + r.val) % 128 < 120 by omega)).trans ?_
  refine Eq.trans (congrArg (fun k : Fin 960 => (V m c main_v1 : Vec Ideal S960x256 .bf16) (ix2 k q)) (Fin.ext ?_)) (v1_apply m c a0 h _ q)
  show (j.val * 128 + r.val) / 128 * 120 + (j.val * 128 + r.val) % 128 = j.val * 120 + r.val
  omega

/-- and in the rows no feature has. -/
theorem xs_pad (q : Fin 256) (j : Fin 8) (r : Fin 8) : xs m c (ix2 q (⟨j.val * 128 + (120 + r.val), by omega⟩ : Fin 1024)) = (0 : EReal) := by
  refine (dif_neg (show ¬ (j.val * 128 + (120 + r.val)) % 128 < 120 by omega)).trans ?_
  exact Ideal.ofBits_zero_bf16

/-- The kernel's number at a feature is the reference's. -/
theorem cval_feature (n : Fin 300000) (j : Fin 8) (r : Fin 120) :
    cval (fun r => a1 (ix2 n r)) (fun p r => a2 (ix3 p n r)) ⟨j.val * 128 + r.val, by omega⟩ = num a1 a2 n ⟨j.val * 120 + r.val, by omega⟩ := by
  have e1 : (⟨(j.val * 128 + r.val) % 128, Nat.mod_lt _ (by norm_num)⟩ : Fin 128) = ⟨r.val, by omega⟩ := Fin.ext (by simp only; omega)
  have e2 : (⟨(j.val * 120 + r.val) % 120, Nat.mod_lt _ (by norm_num)⟩ : Fin 120) = r := Fin.ext (by simp only; omega)
  have e3 : (j.val * 128 + r.val) / 128 = j.val := by omega
  have e4 : (j.val * 120 + r.val) / 120 = j.val := by omega
  have e5 (v : Fin 120 → BitVec 8) : padc v ⟨r.val, by omega⟩ = v r := dif_pos r.isLt
  unfold cval num
  simp only [e1, e2, e3, e4, e5]

/-- The dot product of the kernel is twice the reference's. -/
theorem dots (h0 : arg m c main_arg0 = a0) (q : Fin 256) (n : Fin 300000) :
    (∑ k : Fin 1024, xs m c (ix2 q k) * (((2 * cval (fun r => a1 (ix2 n r)) (fun p r => a2 (ix3 p n r)) k : ℤ) : ℝ) : EReal) : EReal)
      = 2 * ∑ k : Fin 960, a0 (ix3 0 q k) * (((num a1 a2 n k : ℤ) : ℝ) : EReal) := by
  rw [two_mul_sum]
  refine sum_groups _ _ (fun j r => ?_) (fun j r => ?_)
  · rw [xs_feature m c a0 h0, cval_feature, coe_double]
    exact mul_left_comm _ _ _
  · rw [xs_pad, zero_mul]

/-! ## The equation -/

/-- The kernel's result at a query and a document, in the arguments. -/
theorem result_apply (h0 : arg m c main_arg0 = a0) (h1 : arg m c main_arg1 = a1) (h2 : arg m c main_arg2 = a2) (h3 : arg m c main_arg3 = a3)
    (h4 : arg m c main_arg4 = a4) (h5 : arg m c main_arg5 = a5) (q : Fin 256) (n : Fin 300000) :
    result m c (ix3 0 q n)
      = ((a3 (ix1 n) + a5 (ix2 0 q)) + (Ideal.ofBits .f32 0x3F000000#32 * a4 (ix1 n)) * ∑ k : Fin 960, a0 (ix3 0 q k) * (((num a1 a2 n k : ℤ) : ℝ) : EReal) : EReal) := by
  have e : result m c (ix3 0 q n) = out m c (ix2 n q) := by pointwise [result]
  rw [e, ← scale, ← dots m c a0 a1 a2 h0]
  show (_ : EReal) = _
  unfold out scoreArr
  have f1 : (fun r : Fin 120 => (V m c main_v2 : Vec Ideal S120x300000 .i8) (ix2 r n)) = fun r => a1 (ix2 n r) := funext fun r => v2_apply m c a1 h1 r n
  have f2 : (fun (p : Fin 5) (r : Fin 120) => (V m c main_v3 : Vec Ideal S5x120x300000 .i8) (ix3 p r n)) = fun p r => a2 (ix3 p n r) :=
    funext fun p => funext fun r => v3_apply m c a2 h2 p r n
  have f5 : (V m c main_arg5 : Vec Ideal S1x256 .f32) = a5 := (V_main_arg5 m c).trans h5
  rw [← f1, ← f2, ← v4_apply m c a3 h3 n, ← v5_apply m c a4 h4 n, ← f5]
  rfl

/-- From memories equal on the arguments, the reference's result is the kernel's. -/
theorem equal (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    (Cert.ReferenceIdeal.Value.res_main_v96 m' c : Vec Ideal S1x256x300000 .f32) = result m c := by
  obtain ⟨h0, h1, h2, h3, h4, h5⟩ := h
  funext i
  have hi : i = ix3 (0 : Fin 1) (i 1) (i 2) := by
    funext a
    match a with
    | ⟨0, _⟩ => exact Subsingleton.elim (α := Fin 1) _ _
    | ⟨1, _⟩ => rfl
    | ⟨2, _⟩ => rfl
  rw [hi]
  exact (Cert.ReferenceIdeal.Val.res_apply m' c (i 1) (i 2) _ _ _ _ _ _ h0 h1 h2 h3 h4 h5).trans
    (result_apply m c _ _ _ _ _ _ rfl rfl rfl rfl rfl rfl (i 1) (i 2)).symm

end Cert.KernelIdeal.Val

end
-- ==== Proof.lean ====
module

public import proofs.«01_k».proof.Defs
public import proofs.«01_k».proof.Proof.KernelFrame
public import proofs.«01_k».proof.Proof.IdealFrame
public import proofs.«01_k».proof.Proof.Equal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its generated run, the results dropped; it has no semaphore at all. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The value equation: from memories equal on the arguments, the kernel and the reference both end with the kernel's result. -/
theorem algebraic : Cert.algebraic_KernelIdeal_ReferenceIdeal := fun m g m' g' _ h =>
  ⟨Cert.KernelIdeal.Val.result m, Cert.KernelIdeal.Val.value m g,
    (θ_run Cert.ReferenceIdeal.defs _ _).mono (fun r hr c => ⟨(hr c).1.trans (Cert.KernelIdeal.Val.equal m c m' (h c)), (hr c).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  fun m ρ _ => Cert.Kernel.Hand.frame (F := Bits) m ρ,
  fun m ρ _ => Cert.KernelIdeal.Hand.frame (F := Ideal) m ρ,
  frame_reference, trivial, algebraic⟩

end Cert.Proof

end
